-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_posed [hPre_well_posed : Cert.Pre_well_posed.Facts] (m : (ℓ : Loc Cert.KernelIdeal.nD Cert.KernelIdeal.τ Cert.KernelIdeal.sig) → Buf (Elt Ideal) ℓ) : Prop :=
  ∀ c : Dev Cert.KernelIdeal.nD,
    (Cert.Pre_well_posed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_posed [hPre_well_posed : Cert.Pre_well_posed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_posed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_well_posed [hKernelIdeal : Cert.KernelIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_posed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_well_posed [hReferenceIdeal : Cert.ReferenceIdeal.Facts] [hPre_well_posed : Cert.Pre_well_posed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_posed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_well_posed [hKernelIdeal : Cert.KernelIdeal.Facts] [hReferenceIdeal : Cert.ReferenceIdeal.Facts] [hPre_well_posed : Cert.Pre_well_posed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_posed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_well_posed : Cert.Pre_well_posed.Facts),
    quiescent_Kernel (hKernel := hKernel)
    ∧ quiescent_KernelIdeal (hKernelIdeal := hKernelIdeal)
    ∧ quiescent_KernelIdeal_pre_well_posed (hKernelIdeal := hKernelIdeal) (hPre_well_posed := hPre_well_posed)
    ∧ quiescent_ReferenceIdeal (hReferenceIdeal := hReferenceIdeal)
    ∧ quiescent_ReferenceIdeal_pre_well_posed (hReferenceIdeal := hReferenceIdeal) (hPre_well_posed := hPre_well_posed)
    ∧ preserves_Kernel_KernelIdeal
    ∧ algebraic_KernelIdeal_ReferenceIdeal_pre_well_posed (hKernelIdeal := hKernelIdeal) (hReferenceIdeal := hReferenceIdeal) (hPre_well_posed := hPre_well_posed)
-- ==== Pre_well_posed.lean ====
abbrev S8x5000x80 : Shape := ⟨3, ![8, 5000, 80]⟩
abbrev S8x5000x4 : Shape := ⟨3, ![8, 5000, 4]⟩
abbrev S8x60x4 : Shape := ⟨3, ![8, 60, 4]⟩
abbrev S8x60 : Shape := ⟨2, ![8, 60]⟩
abbrev S_ : Shape := ⟨0, ![]⟩
abbrev S8x5000x2 : Shape := ⟨3, ![8, 5000, 2]⟩
abbrev S8x5000x1x2 : Shape := ⟨4, ![8, 5000, 1, 2]⟩
abbrev S8x60x2 : Shape := ⟨3, ![8, 60, 2]⟩
abbrev S8x1x60x2 : Shape := ⟨4, ![8, 1, 60, 2]⟩
abbrev S8x5000x60x2 : Shape := ⟨4, ![8, 5000, 60, 2]⟩
abbrev S8x5000x60x1 : Shape := ⟨4, ![8, 5000, 60, 1]⟩
abbrev S8x5000x60 : Shape := ⟨3, ![8, 5000, 60]⟩
abbrev S8x5000x1 : Shape := ⟨3, ![8, 5000, 1]⟩
abbrev S8x5000 : Shape := ⟨2, ![8, 5000]⟩
abbrev S8x60x1 : Shape := ⟨3, ![8, 60, 1]⟩
abbrev S8x1x60 : Shape := ⟨3, ![8, 1, 60]⟩
abbrev S8x60x5000 : Shape := ⟨3, ![8, 60, 5000]⟩
abbrev S8x60x9 : Shape := ⟨3, ![8, 60, 9]⟩
abbrev S8x60x8 : Shape := ⟨3, ![8, 60, 8]⟩
abbrev S8x9x60 : Shape := ⟨3, ![8, 9, 60]⟩
abbrev S8x8x60 : Shape := ⟨3, ![8, 8, 60]⟩
abbrev S8x1x8x60 : Shape := ⟨4, ![8, 1, 8, 60]⟩
abbrev S5000 : Shape := ⟨1, ![5000]⟩
abbrev S1x5000x1x1 : Shape := ⟨4, ![1, 5000, 1, 1]⟩
abbrev S8x5000x8x60 : Shape := ⟨4, ![8, 5000, 8, 60]⟩
abbrev S60 : Shape := ⟨1, ![60]⟩
abbrev S1x1x60 : Shape := ⟨3, ![1, 1, 60]⟩

class Facts : Prop where
  bcast_S_S8x5000x80 : S_.BroadcastsInDim S8x5000x80 (![] : Fin 0 → Fin S8x5000x80.rank)
  reducesTo_S8x5000x80_S_d0_1_2 : S8x5000x80.ReducesTo [0, 1, 2] S_
  h_S_ : 0 < S_.numel
  bcast_S_S8x60 : S_.BroadcastsInDim S8x60 (![] : Fin 0 → Fin S8x60.rank)
  reducesTo_S8x60_S_d0_1 : S8x60.ReducesTo [0, 1] S_
  slices_S8x5000x4_S8x5000x2_0_0_0 : S8x5000x4.Slices ![0, 0, 0] S8x5000x2
  bcast_S8x5000x2_S8x5000x1x2_0_1_3 : S8x5000x2.BroadcastsInDim S8x5000x1x2 (![0, 1, 3] : Fin 3 → Fin S8x5000x1x2.rank)
  slices_S8x60x4_S8x60x2_0_0_0 : S8x60x4.Slices ![0, 0, 0] S8x60x2
  bcast_S8x60x2_S8x1x60x2_0_2_3 : S8x60x2.BroadcastsInDim S8x1x60x2 (![0, 2, 3] : Fin 3 → Fin S8x1x60x2.rank)
  bcast_S8x5000x1x2_S8x5000x60x2_0_1_2_3 : S8x5000x1x2.BroadcastsInDim S8x5000x60x2 (![0, 1, 2, 3] : Fin 4 → Fin S8x5000x60x2.rank)
  bcast_S8x1x60x2_S8x5000x60x2_0_1_2_3 : S8x1x60x2.BroadcastsInDim S8x5000x60x2 (![0, 1, 2, 3] : Fin 4 → Fin S8x5000x60x2.rank)
  slices_S8x5000x4_S8x5000x2_0_0_2 : S8x5000x4.Slices ![0, 0, 2] S8x5000x2
  slices_S8x60x4_S8x60x2_0_0_2 : S8x60x4.Slices ![0, 0, 2] S8x60x2
  bcast_S_S8x5000x60x2 : S_.BroadcastsInDim S8x5000x60x2 (![] : Fin 0 → Fin S8x5000x60x2.rank)
  slices_S8x5000x60x2_S8x5000x60x1_0_0_0_0 : S8x5000x60x2.Slices ![0, 0, 0, 0] S8x5000x60x1
  shapeCasts_S8x5000x60x1_S8x5000x60 : S8x5000x60x1.ShapeCasts S8x5000x60
  slices_S8x5000x60x2_S8x5000x60x1_0_0_0_1 : S8x5000x60x2.Slices ![0, 0, 0, 1] S8x5000x60x1
  slices_S8x5000x4_S8x5000x1_0_0_2 : S8x5000x4.Slices ![0, 0, 2] S8x5000x1
  shapeCasts_S8x5000x1_S8x5000 : S8x5000x1.ShapeCasts S8x5000
  slices_S8x5000x4_S8x5000x1_0_0_0 : S8x5000x4.Slices ![0, 0, 0] S8x5000x1
  slices_S8x5000x4_S8x5000x1_0_0_3 : S8x5000x4.Slices ![0, 0, 3] S8x5000x1
  slices_S8x5000x4_S8x5000x1_0_0_1 : S8x5000x4.Slices ![0, 0, 1] S8x5000x1
  bcast_S8x5000_S8x5000x1_0_1 : S8x5000.BroadcastsInDim S8x5000x1 (![0, 1] : Fin 2 → Fin S8x5000x1.rank)
  slices_S8x60x4_S8x60x1_0_0_2 : S8x60x4.Slices ![0, 0, 2] S8x60x1
  shapeCasts_S8x60x1_S8x60 : S8x60x1.ShapeCasts S8x60
  slices_S8x60x4_S8x60x1_0_0_0 : S8x60x4.Slices ![0, 0, 0] S8x60x1
  slices_S8x60x4_S8x60x1_0_0_3 : S8x60x4.Slices ![0, 0, 3] S8x60x1
  slices_S8x60x4_S8x60x1_0_0_1 : S8x60x4.Slices ![0, 0, 1] S8x60x1
  bcast_S8x60_S8x1x60_0_2 : S8x60.BroadcastsInDim S8x1x60 (![0, 2] : Fin 2 → Fin S8x1x60.rank)
  bcast_S8x5000x1_S8x5000x60_0_1_2 : S8x5000x1.BroadcastsInDim S8x5000x60 (![0, 1, 2] : Fin 3 → Fin S8x5000x60.rank)
  bcast_S8x1x60_S8x5000x60_0_1_2 : S8x1x60.BroadcastsInDim S8x5000x60 (![0, 1, 2] : Fin 3 → Fin S8x5000x60.rank)
  bcast_S_S8x5000x60 : S_.BroadcastsInDim S8x5000x60 (![] : Fin 0 → Fin S8x5000x60.rank)
  bcast_S8x60_S8x60x1_0_1 : S8x60.BroadcastsInDim S8x60x1 (![0, 1] : Fin 2 → Fin S8x60x1.rank)
  transposes_S8x5000x60_S8x60x5000_0_2_1 : S8x5000x60.Transposes [0, 2, 1] S8x60x5000
  sliceFits_S8x60x5000_S8x60x9 : S8x60x5000.Slices (fun _ => 0) S8x60x9
  slices_S8x60x9_S8x60x8_0_0_0 : S8x60x9.Slices ![0, 0, 0] S8x60x8
  slices_S8x60x9_S8x60x8_0_0_1 : S8x60x9.Slices ![0, 0, 1] S8x60x8
  bcast_S_S8x60x8 : S_.BroadcastsInDim S8x60x8 (![] : Fin 0 → Fin S8x60x8.rank)
  reducesTo_S8x60x8_S_d0_1_2 : S8x60x8.ReducesTo [0, 1, 2] S_
  transposes_S8x60x9_S8x9x60_0_2_1 : S8x60x9.Transposes [0, 2, 1] S8x9x60
  slices_S8x9x60_S8x8x60_0_0_0 : S8x9x60.Slices ![0, 0, 0] S8x8x60
  bcast_S8x8x60_S8x1x8x60_0_2_3 : S8x8x60.BroadcastsInDim S8x1x8x60 (![0, 2, 3] : Fin 3 → Fin S8x1x8x60.rank)
  bcast_S5000_S1x5000x1x1_1 : S5000.BroadcastsInDim S1x5000x1x1 (![1] : Fin 1 → Fin S1x5000x1x1.rank)
  bcast_S8x1x8x60_S8x5000x8x60_0_1_2_3 : S8x1x8x60.BroadcastsInDim S8x5000x8x60 (![0, 1, 2, 3] : Fin 4 → Fin S8x5000x8x60.rank)
  bcast_S1x5000x1x1_S8x5000x8x60_0_1_2_3 : S1x5000x1x1.BroadcastsInDim S8x5000x8x60 (![0, 1, 2, 3] : Fin 4 → Fin S8x5000x8x60.rank)
  reducesTo_S8x5000x8x60_S8x5000x60_d2 : S8x5000x8x60.ReducesTo [2] S8x5000x60
  sliceFits_S8x5000x60_S8x5000x1 : S8x5000x60.Slices (fun _ => 0) S8x5000x1
  bcast_S60_S1x1x60_2 : S60.BroadcastsInDim S1x1x60 (![2] : Fin 1 → Fin S1x1x60.rank)
  bcast_S1x1x60_S8x5000x60_0_1_2 : S1x1x60.BroadcastsInDim S8x5000x60 (![0, 1, 2] : Fin 3 → Fin S8x5000x60.rank)
  reducesTo_S8x5000x60_S_d0_1_2 : S8x5000x60.ReducesTo [0, 1, 2] S_
  gather_S8x5000x80_S8x60x1_S8x5000x60_1_2_0_0_2_2_150001_wf : GatherDims.WF S8x5000x80 S8x60x1 S8x5000x60 [1] [2] [0] [2] [0] 2 ![1, 5000, 1]

variable [Facts]

def gather_S8x5000x80_S8x60x1_S8x5000x60_1_2_0_0_2_2_150001 : GatherDims S8x5000x80 S8x60x1 S8x5000x60 where
  offsetDims := [1]
  collapsedSliceDims := [2]
  operandBatchingDims := [0]
  startIndicesBatchingDims := [0]
  startIndexMap := [2]
  indexVectorDim := 2
  sliceSizes := ![1, 5000, 1]
  wf := gather_S8x5000x80_S8x60x1_S8x5000x60_1_2_0_0_2_2_150001_wf
def fn_part5 {F : FTy → Type} [FloatOps F] (main_v5 : IVec S_ 1) (main_v11 : IVec S_ 1) (main_v85 : IVec S_ 1) (main_v94 : IVec S8x5000x60 1) (main_indices_15 : IVec S8x5000x1 32) (main_v98 : IVec S8x5000x60 1) (main_v99 : IVec S60 32) : IVec S_ 1 :=
  let main_v100 : IVec S1x1x60 32 := broadcastInDim S1x1x60 ![2] bcast_S60_S1x1x60_2 main_v99
  let main_v101 : IVec S8x5000x60 32 := broadcastInDim S8x5000x60 ![0, 1, 2] bcast_S1x1x60_S8x5000x60_0_1_2 main_v100
  let main_v102 : IVec S8x5000x60 32 := broadcastInDim S8x5000x60 ![0, 1, 2] bcast_S8x5000x1_S8x5000x60_0_1_2 main_indices_15
  let main_v103 : IVec S8x5000x60 1 := cmpi .eq main_v101 main_v102
  let main_v104 : IVec S8x5000x60 1 := ori main_v98 main_v103
  let main_v105 : IVec S8x5000x60 1 := noti main_v94
  let main_v106 : IVec S8x5000x60 1 := ori main_v104 main_v105
  let main_c_16 : IVec S_ 1 := constantI S_ 1 1#1
  let main_v107 : IVec S_ 1 := (fun x v => Host.reduce IntOp.andi x v reducesTo_S8x5000x60_S_d0_1_2 h_S_) main_v106 main_c_16
  let main_v108 : IVec S_ 1 := andi main_v5 main_v11
  let main_v109 : IVec S_ 1 := andi main_v108 main_v85
  let main_v110 : IVec S_ 1 := andi main_v109 main_v107
  main_v110

def fn_part4 {F : FTy → Type} [FloatOps F] (main_v5 : IVec S_ 1) (main_v11 : IVec S_ 1) (main_v76 : FVec F S8x5000x60 .f32) (main_indices : IVec S8x60x9 32) (main_v80 : IVec S8x60x8 1) (main_v81 : FVec F S8x60x8 .f32) : IVec S_ 1 :=
  let main_cst_10 : FVec F S_ .f32 := constant S_ .f32 0x00000000#32
  let main_v82 : FVec F S8x60x8 .f32 := broadcastInDim S8x60x8 ![] bcast_S_S8x60x8 main_cst_10
  let main_v83 : IVec S8x60x8 1 := cmpf .ole main_v81 main_v82
  let main_v84 : IVec S8x60x8 1 := ori main_v80 main_v83
  let main_c_11 : IVec S_ 1 := constantI S_ 1 1#1
  let main_v85 : IVec S_ 1 := (fun x v => Host.reduce IntOp.andi x v reducesTo_S8x60x8_S_d0_1_2 h_S_) main_v84 main_c_11
  let main_v86 : IVec S8x9x60 32 := (transpose S8x9x60 [0, 2, 1] · transposes_S8x60x9_S8x9x60_0_2_1) main_indices
  let main_v87 : IVec S8x8x60 32 := (extractStridedSlice S8x8x60 ![0, 0, 0] · slices_S8x9x60_S8x8x60_0_0_0) main_v86
  let main_v88 : IVec S8x1x8x60 32 := broadcastInDim S8x1x8x60 ![0, 2, 3] bcast_S8x8x60_S8x1x8x60_0_2_3 main_v87
  let main_v89 : IVec S5000 32 := iotaInDim S5000 32 0
  let main_v90 : IVec S1x5000x1x1 32 := broadcastInDim S1x5000x1x1 ![1] bcast_S5000_S1x5000x1x1_1 main_v89
  let main_v91 : IVec S8x5000x8x60 32 := broadcastInDim S8x5000x8x60 ![0, 1, 2, 3] bcast_S8x1x8x60_S8x5000x8x60_0_1_2_3 main_v88
  let main_v92 : IVec S8x5000x8x60 32 := broadcastInDim S8x5000x8x60 ![0, 1, 2, 3] bcast_S1x5000x1x1_S8x5000x8x60_0_1_2_3 main_v90
  let main_v93 : IVec S8x5000x8x60 1 := cmpi .eq main_v91 main_v92
  let main_c_12 : IVec S_ 1 := constantI S_ 1 0#1
  let main_v94 : IVec S8x5000x60 1 := (fun x v => Host.reduce IntOp.ori x v reducesTo_S8x5000x8x60_S8x5000x60_d2 h_S_) main_v93 main_c_12
  let main_cst_13 : FVec F S_ .f32 := constant S_ .f32 0xCE6E6B28#32
  let main_v95 : FVec F S8x5000x60 .f32 := broadcastInDim S8x5000x60 ![] bcast_S_S8x5000x60 main_cst_13
  let main_v96 : FVec F S8x5000x60 .f32 := select main_v94 main_v76 main_v95
  let main_values_14 : FVec F S8x5000x1 .f32 := (fun x => (Host.topK S8x5000x1 2 (FloatOps.cmpfTotal .gt) x sliceFits_S8x5000x60_S8x5000x1).1) main_v96
  let main_indices_15 : IVec S8x5000x1 32 := (fun x => (Host.topK S8x5000x1 2 (FloatOps.cmpfTotal .gt) x sliceFits_S8x5000x60_S8x5000x1).2) main_v96
  let main_v97 : FVec F S8x5000x60 .f32 := broadcastInDim S8x5000x60 ![0, 1, 2] bcast_S8x5000x1_S8x5000x60_0_1_2 main_values_14
  let main_v98 : IVec S8x5000x60 1 := cmpf .olt main_v96 main_v97
  let main_v99 : IVec S60 32 := iotaInDim S60 32 0
  fn_part5 (F := F) main_v5 main_v11 main_v85 main_v94 main_indices_15 main_v98 main_v99

def fn_part3 {F : FTy → Type} [FloatOps F] (main_arg0 : FVec F S8x5000x80 .f32) (main_arg3 : IVec S8x60 32) (main_v5 : IVec S_ 1) (main_v11 : IVec S_ 1) (main_v33 : FVec F S8x5000x60 .f32) (main_v63 : FVec F S8x5000x60 .f32) : IVec S_ 1 :=
  let main_v64 : FVec F S8x5000x60 .f32 := Host.divf main_v33 main_v63
  let main_c_6 : IVec S_ 32 := constantI S_ 32 0#32
  let main_v65 : IVec S8x60 32 := broadcastInDim S8x60 ![] bcast_S_S8x60 main_c_6
  let main_v66 : IVec S8x60 1 := cmpi .slt main_arg3 main_v65
  let main_c_7 : IVec S_ 32 := constantI S_ 32 80#32
  let main_v67 : IVec S8x60 32 := broadcastInDim S8x60 ![] bcast_S_S8x60 main_c_7
  let main_v68 : IVec S8x60 32 := addi main_arg3 main_v67
  let main_v69 : IVec S8x60 32 := select main_v66 main_v68 main_arg3
  let main_v70 : IVec S8x60x1 32 := broadcastInDim S8x60x1 ![0, 1] bcast_S8x60_S8x60x1_0_1 main_v69
  let main_v71 : FVec F S8x5000x60 .f32 := (fun x i => Host.gather gather_S8x5000x80_S8x60x1_S8x5000x60_1_2_0_0_2_2_150001 x i) main_arg0 main_v70
  let main_cst_8 : FVec F S_ .f32 := constant S_ .f32 0x3F800000#32
  let main_v72 : FVec F S8x5000x60 .f32 := broadcastInDim S8x5000x60 ![] bcast_S_S8x5000x60 main_cst_8
  let main_v73 : FVec F S8x5000x60 .f32 := Host.powf main_v71 main_v72
  let main_cst_9 : FVec F S_ .f32 := constant S_ .f32 0x40C00000#32
  let main_v74 : FVec F S8x5000x60 .f32 := broadcastInDim S8x5000x60 ![] bcast_S_S8x5000x60 main_cst_9
  let main_v75 : FVec F S8x5000x60 .f32 := Host.powf main_v64 main_v74
  let main_v76 : FVec F S8x5000x60 .f32 := mulf main_v73 main_v75
  let main_v77 : FVec F S8x60x5000 .f32 := (transpose S8x60x5000 [0, 2, 1] · transposes_S8x5000x60_S8x60x5000_0_2_1) main_v76
  let main_values : FVec F S8x60x9 .f32 := (fun x => (Host.topK S8x60x9 2 (FloatOps.cmpfTotal .gt) x sliceFits_S8x60x5000_S8x60x9).1) main_v77
  let main_indices : IVec S8x60x9 32 := (fun x => (Host.topK S8x60x9 2 (FloatOps.cmpfTotal .gt) x sliceFits_S8x60x5000_S8x60x9).2) main_v77
  let main_v78 : FVec F S8x60x8 .f32 := (extractStridedSlice S8x60x8 ![0, 0, 0] · slices_S8x60x9_S8x60x8_0_0_0) main_values
  let main_v79 : FVec F S8x60x8 .f32 := (extractStridedSlice S8x60x8 ![0, 0, 1] · slices_S8x60x9_S8x60x8_0_0_1) main_values
  let main_v80 : IVec S8x60x8 1 := cmpf .ogt main_v78 main_v79
  let main_v81 : FVec F S8x60x8 .f32 := (extractStridedSlice S8x60x8 ![0, 0, 1] · slices_S8x60x9_S8x60x8_0_0_1) main_values
  fn_part4 (F := F) main_v5 main_v11 main_v76 main_indices main_v80 main_v81

def fn_part2 {F : FTy → Type} [FloatOps F] (main_arg0 : FVec F S8x5000x80 .f32) (main_arg1 : FVec F S8x5000x4 .f32) (main_arg2 : FVec F S8x60x4 .f32) (main_arg3 : IVec S8x60 32) (main_v5 : IVec S_ 1) (main_v11 : IVec S_ 1) (main_v33 : FVec F S8x5000x60 .f32) (main_v38 : FVec F S8x5000 .f32) (main_v40 : FVec F S8x5000 .f32) : IVec S_ 1 :=
  let main_v41 : FVec F S8x5000x1 .f32 := (extractStridedSlice S8x5000x1 ![0, 0, 1] · slices_S8x5000x4_S8x5000x1_0_0_1) main_arg1
  let main_v42 : FVec F S8x5000 .f32 := shapeCast S8x5000 main_v41 shapeCasts_S8x5000x1_S8x5000
  let main_v43 : FVec F S8x5000 .f32 := subf main_v40 main_v42
  let main_v44 : FVec F S8x5000 .f32 := mulf main_v38 main_v43
  let main_v45 : FVec F S8x5000x1 .f32 := broadcastInDim S8x5000x1 ![0, 1] bcast_S8x5000_S8x5000x1_0_1 main_v44
  let main_v46 : FVec F S8x60x1 .f32 := (extractStridedSlice S8x60x1 ![0, 0, 2] · slices_S8x60x4_S8x60x1_0_0_2) main_arg2
  let main_v47 : FVec F S8x60 .f32 := shapeCast S8x60 main_v46 shapeCasts_S8x60x1_S8x60
  let main_v48 : FVec F S8x60x1 .f32 := (extractStridedSlice S8x60x1 ![0, 0, 0] · slices_S8x60x4_S8x60x1_0_0_0) main_arg2
  let main_v49 : FVec F S8x60 .f32 := shapeCast S8x60 main_v48 shapeCasts_S8x60x1_S8x60
  let main_v50 : FVec F S8x60 .f32 := subf main_v47 main_v49
  let main_v51 : FVec F S8x60x1 .f32 := (extractStridedSlice S8x60x1 ![0, 0, 3] · slices_S8x60x4_S8x60x1_0_0_3) main_arg2
  let main_v52 : FVec F S8x60 .f32 := shapeCast S8x60 main_v51 shapeCasts_S8x60x1_S8x60
  let main_v53 : FVec F S8x60x1 .f32 := (extractStridedSlice S8x60x1 ![0, 0, 1] · slices_S8x60x4_S8x60x1_0_0_1) main_arg2
  let main_v54 : FVec F S8x60 .f32 := shapeCast S8x60 main_v53 shapeCasts_S8x60x1_S8x60
  let main_v55 : FVec F S8x60 .f32 := subf main_v52 main_v54
  let main_v56 : FVec F S8x60 .f32 := mulf main_v50 main_v55
  let main_v57 : FVec F S8x1x60 .f32 := broadcastInDim S8x1x60 ![0, 2] bcast_S8x60_S8x1x60_0_2 main_v56
  let main_v58 : FVec F S8x5000x60 .f32 := broadcastInDim S8x5000x60 ![0, 1, 2] bcast_S8x5000x1_S8x5000x60_0_1_2 main_v45
  let main_v59 : FVec F S8x5000x60 .f32 := broadcastInDim S8x5000x60 ![0, 1, 2] bcast_S8x1x60_S8x5000x60_0_1_2 main_v57
  let main_v60 : FVec F S8x5000x60 .f32 := addf main_v58 main_v59
  let main_v61 : FVec F S8x5000x60 .f32 := subf main_v60 main_v33
  let main_cst_5 : FVec F S_ .f32 := constant S_ .f32 0x33D6BF95#32
  let main_v62 : FVec F S8x5000x60 .f32 := broadcastInDim S8x5000x60 ![] bcast_S_S8x5000x60 main_cst_5
  let main_v63 : FVec F S8x5000x60 .f32 := maximumf main_v61 main_v62
  fn_part3 (F := F) main_arg0 main_arg3 main_v5 main_v11 main_v33 main_v63

def fn_part1 {F : FTy → Type} [FloatOps F] (main_arg0 : FVec F S8x5000x80 .f32) (main_arg1 : FVec F S8x5000x4 .f32) (main_arg2 : FVec F S8x60x4 .f32) (main_arg3 : IVec S8x60 32) (main_v5 : IVec S_ 1) (main_v11 : IVec S_ 1) (main_v16 : FVec F S8x5000x60x2 .f32) (main_v17 : FVec F S8x5000x60x2 .f32) : IVec S_ 1 :=
  let main_v18 : FVec F S8x5000x60x2 .f32 := maximumf main_v16 main_v17
  let main_v19 : FVec F S8x5000x2 .f32 := (extractStridedSlice S8x5000x2 ![0, 0, 2] · slices_S8x5000x4_S8x5000x2_0_0_2) main_arg1
  let main_v20 : FVec F S8x5000x1x2 .f32 := broadcastInDim S8x5000x1x2 ![0, 1, 3] bcast_S8x5000x2_S8x5000x1x2_0_1_3 main_v19
  let main_v21 : FVec F S8x60x2 .f32 := (extractStridedSlice S8x60x2 ![0, 0, 2] · slices_S8x60x4_S8x60x2_0_0_2) main_arg2
  let main_v22 : FVec F S8x1x60x2 .f32 := broadcastInDim S8x1x60x2 ![0, 2, 3] bcast_S8x60x2_S8x1x60x2_0_2_3 main_v21
  let main_v23 : FVec F S8x5000x60x2 .f32 := broadcastInDim S8x5000x60x2 ![0, 1, 2, 3] bcast_S8x5000x1x2_S8x5000x60x2_0_1_2_3 main_v20
  let main_v24 : FVec F S8x5000x60x2 .f32 := broadcastInDim S8x5000x60x2 ![0, 1, 2, 3] bcast_S8x1x60x2_S8x5000x60x2_0_1_2_3 main_v22
  let main_v25 : FVec F S8x5000x60x2 .f32 := minimumf main_v23 main_v24
  let main_v26 : FVec F S8x5000x60x2 .f32 := subf main_v25 main_v18
  let main_cst_4 : FVec F S_ .f32 := constant S_ .f32 0x00000000#32
  let main_v27 : FVec F S8x5000x60x2 .f32 := broadcastInDim S8x5000x60x2 ![] bcast_S_S8x5000x60x2 main_cst_4
  let main_v28 : FVec F S8x5000x60x2 .f32 := maximumf main_v27 main_v26
  let main_v29 : FVec F S8x5000x60x1 .f32 := (extractStridedSlice S8x5000x60x1 ![0, 0, 0, 0] · slices_S8x5000x60x2_S8x5000x60x1_0_0_0_0) main_v28
  let main_v30 : FVec F S8x5000x60 .f32 := shapeCast S8x5000x60 main_v29 shapeCasts_S8x5000x60x1_S8x5000x60
  let main_v31 : FVec F S8x5000x60x1 .f32 := (extractStridedSlice S8x5000x60x1 ![0, 0, 0, 1] · slices_S8x5000x60x2_S8x5000x60x1_0_0_0_1) main_v28
  let main_v32 : FVec F S8x5000x60 .f32 := shapeCast S8x5000x60 main_v31 shapeCasts_S8x5000x60x1_S8x5000x60
  let main_v33 : FVec F S8x5000x60 .f32 := mulf main_v30 main_v32
  let main_v34 : FVec F S8x5000x1 .f32 := (extractStridedSlice S8x5000x1 ![0, 0, 2] · slices_S8x5000x4_S8x5000x1_0_0_2) main_arg1
  let main_v35 : FVec F S8x5000 .f32 := shapeCast S8x5000 main_v34 shapeCasts_S8x5000x1_S8x5000
  let main_v36 : FVec F S8x5000x1 .f32 := (extractStridedSlice S8x5000x1 ![0, 0, 0] · slices_S8x5000x4_S8x5000x1_0_0_0) main_arg1
  let main_v37 : FVec F S8x5000 .f32 := shapeCast S8x5000 main_v36 shapeCasts_S8x5000x1_S8x5000
  let main_v38 : FVec F S8x5000 .f32 := subf main_v35 main_v37
  let main_v39 : FVec F S8x5000x1 .f32 := (extractStridedSlice S8x5000x1 ![0, 0, 3] · slices_S8x5000x4_S8x5000x1_0_0_3) main_arg1
  let main_v40 : FVec F S8x5000 .f32 := shapeCast S8x5000 main_v39 shapeCasts_S8x5000x1_S8x5000
  fn_part2 (F := F) main_arg0 main_arg1 main_arg2 main_arg3 main_v5 main_v11 main_v33 main_v38 main_v40

def fn {F : FTy → Type} [FloatOps F] (main_arg0 : FVec F S8x5000x80 .f32) (main_arg1 : FVec F S8x5000x4 .f32) (main_arg2 : FVec F S8x60x4 .f32) (main_arg3 : IVec S8x60 32) : IVec S_ 1 :=
  let main_cst : FVec F S_ .f32 := constant S_ .f32 0x00000000#32
  let main_v0 : FVec F S8x5000x80 .f32 := broadcastInDim S8x5000x80 ![] bcast_S_S8x5000x80 main_cst
  let main_v1 : IVec S8x5000x80 1 := cmpf .oge main_arg0 main_v0
  let main_cst_0 : FVec F S_ .f32 := constant S_ .f32 0x3F800000#32
  let main_v2 : FVec F S8x5000x80 .f32 := broadcastInDim S8x5000x80 ![] bcast_S_S8x5000x80 main_cst_0
  let main_v3 : IVec S8x5000x80 1 := cmpf .olt main_arg0 main_v2
  let main_v4 : IVec S8x5000x80 1 := andi main_v1 main_v3
  let main_c : IVec S_ 1 := constantI S_ 1 1#1
  let main_v5 : IVec S_ 1 := (fun x v => Host.reduce IntOp.andi x v reducesTo_S8x5000x80_S_d0_1_2 h_S_) main_v4 main_c
  let main_c_1 : IVec S_ 32 := constantI S_ 32 0#32
  let main_v6 : IVec S8x60 32 := broadcastInDim S8x60 ![] bcast_S_S8x60 main_c_1
  let main_v7 : IVec S8x60 1 := cmpi .sge main_arg3 main_v6
  let main_c_2 : IVec S_ 32 := constantI S_ 32 80#32
  let main_v8 : IVec S8x60 32 := broadcastInDim S8x60 ![] bcast_S_S8x60 main_c_2
  let main_v9 : IVec S8x60 1 := cmpi .slt main_arg3 main_v8
  let main_v10 : IVec S8x60 1 := andi main_v7 main_v9
  let main_c_3 : IVec S_ 1 := constantI S_ 1 1#1
  let main_v11 : IVec S_ 1 := (fun x v => Host.reduce IntOp.andi x v reducesTo_S8x60_S_d0_1 h_S_) main_v10 main_c_3
  let main_v12 : FVec F S8x5000x2 .f32 := (extractStridedSlice S8x5000x2 ![0, 0, 0] · slices_S8x5000x4_S8x5000x2_0_0_0) main_arg1
  let main_v13 : FVec F S8x5000x1x2 .f32 := broadcastInDim S8x5000x1x2 ![0, 1, 3] bcast_S8x5000x2_S8x5000x1x2_0_1_3 main_v12
  let main_v14 : FVec F S8x60x2 .f32 := (extractStridedSlice S8x60x2 ![0, 0, 0] · slices_S8x60x4_S8x60x2_0_0_0) main_arg2
  let main_v15 : FVec F S8x1x60x2 .f32 := broadcastInDim S8x1x60x2 ![0, 2, 3] bcast_S8x60x2_S8x1x60x2_0_2_3 main_v14
  let main_v16 : FVec F S8x5000x60x2 .f32 := broadcastInDim S8x5000x60x2 ![0, 1, 2, 3] bcast_S8x5000x1x2_S8x5000x60x2_0_1_2_3 main_v13
  let main_v17 : FVec F S8x5000x60x2 .f32 := broadcastInDim S8x5000x60x2 ![0, 1, 2, 3] bcast_S8x1x60x2_S8x5000x60x2_0_1_2_3 main_v15
  fn_part1 (F := F) main_arg0 main_arg1 main_arg2 main_arg3 main_v5 main_v11 main_v16 main_v17
-- ==== Kernel.lean ====
abbrev S8x5000x80 : Shape := ⟨3, ![8, 5000, 80]⟩
abbrev S8x5000x4 : Shape := ⟨3, ![8, 5000, 4]⟩
abbrev S8x60x4 : Shape := ⟨3, ![8, 60, 4]⟩
abbrev S8x60 : Shape := ⟨2, ![8, 60]⟩
abbrev S8x80x5000 : Shape := ⟨3, ![8, 80, 5000]⟩
abbrev S8x4x5000 : Shape := ⟨3, ![8, 4, 5000]⟩
abbrev S8x60x1 : Shape := ⟨3, ![8, 60, 1]⟩
abbrev S5000 : Shape := ⟨1, ![5000]⟩
abbrev S_ : Shape := ⟨0, ![]⟩
abbrev S1x1x5000 : Shape := ⟨3, ![1, 1, 5000]⟩
abbrev S60 : Shape := ⟨1, ![60]⟩
abbrev S1x60x1 : Shape := ⟨3, ![1, 60, 1]⟩
abbrev S1x8x128 : Shape := ⟨3, ![1, 8, 128]⟩
abbrev S1x2x8 : Shape := ⟨3, ![1, 2, 8]⟩
abbrev S2x8 : Shape := ⟨2, ![2, 8]⟩
abbrev S1x80x5000 : Shape := ⟨3, ![1, 80, 5000]⟩
abbrev S1x4x5000 : Shape := ⟨3, ![1, 4, 5000]⟩
abbrev S1x60x4 : Shape := ⟨3, ![1, 60, 4]⟩
abbrev S3x128 : Shape := ⟨2, ![3, 128]⟩
abbrev S80x5000 : Shape := ⟨2, ![80, 5000]⟩
abbrev S4x5000 : Shape := ⟨2, ![4, 5000]⟩
abbrev S60x4 : Shape := ⟨2, ![60, 4]⟩
abbrev S60x1 : Shape := ⟨2, ![60, 1]⟩
abbrev S1x5000 : Shape := ⟨2, ![1, 5000]⟩
abbrev S60x5000 : Shape := ⟨2, ![60, 5000]⟩
abbrev S60x80 : Shape := ⟨2, ![60, 80]⟩
abbrev S60x6 : Shape := ⟨2, ![60, 6]⟩
abbrev S6x5000 : Shape := ⟨2, ![6, 5000]⟩
abbrev S1 : Shape := ⟨1, ![1]⟩
abbrev S1x1x1 : Shape := ⟨3, ![1, 1, 1]⟩
abbrev S1x128 : Shape := ⟨2, ![1, 128]⟩
abbrev S1x1x128 : Shape := ⟨3, ![1, 1, 128]⟩
abbrev S6x128 : Shape := ⟨2, ![6, 128]⟩
abbrev S8x128 : Shape := ⟨2, ![8, 128]⟩

abbrev nBuf : Space → Nat
  | .hbm => 27
  | .vmem => 12
  | .smem => 0
  | _ => 0

abbrev bufTy : (tb : Table) → Fin (tcTables nBuf tb) → BufTy
  | .hbm, ⟨0, _⟩ => ⟨S8x5000x80, .f32⟩
  | .hbm, ⟨1, _⟩ => ⟨S8x5000x4, .f32⟩
  | .hbm, ⟨2, _⟩ => ⟨S8x60x4, .f32⟩
  | .hbm, ⟨3, _⟩ => ⟨S8x60, .i32⟩
  | .hbm, ⟨4, _⟩ => ⟨S8x80x5000, .f32⟩
  | .hbm, ⟨5, _⟩ => ⟨S8x4x5000, .f32⟩
  | .hbm, ⟨6, _⟩ => ⟨S8x60x1, .i32⟩
  | .hbm, ⟨7, _⟩ => ⟨S5000, .f32⟩
  | .hbm, ⟨8, _⟩ => ⟨S_, .f32⟩
  | .hbm, ⟨9, _⟩ => ⟨S5000, .f32⟩
  | .hbm, ⟨10, _⟩ => ⟨S5000, .f32⟩
  | .hbm, ⟨11, _⟩ => ⟨S_, .f32⟩
  | .hbm, ⟨12, _⟩ => ⟨S5000, .f32⟩
  | .hbm, ⟨13, _⟩ => ⟨S5000, .f32⟩
  | .hbm, ⟨14, _⟩ => ⟨S1x1x5000, .f32⟩
  | .hbm, ⟨15, _⟩ => ⟨S60, .f32⟩
  | .hbm, ⟨16, _⟩ => ⟨S_, .f32⟩
  | .hbm, ⟨17, _⟩ => ⟨S60, .f32⟩
  | .hbm, ⟨18, _⟩ => ⟨S60, .f32⟩
  | .hbm, ⟨19, _⟩ => ⟨S_, .f32⟩
  | .hbm, ⟨20, _⟩ => ⟨S60, .f32⟩
  | .hbm, ⟨21, _⟩ => ⟨S60, .f32⟩
  | .hbm, ⟨22, _⟩ => ⟨S60, .f32⟩
  | .hbm, ⟨23, _⟩ => ⟨S1x60x1, .f32⟩
  | .hbm, ⟨24, _⟩ => ⟨S1x8x128, .f32⟩
  | .hbm, ⟨25, _⟩ => ⟨S1x2x8, .f32⟩
  | .hbm, ⟨26, _⟩ => ⟨S2x8, .f32⟩
  | .local _ .vmem, ⟨0, _⟩ => ⟨S1x80x5000, .f32⟩
  | .local _ .vmem, ⟨1, _⟩ => ⟨S1x80x5000, .f32⟩
  | .local _ .vmem, ⟨2, _⟩ => ⟨S1x4x5000, .f32⟩
  | .local _ .vmem, ⟨3, _⟩ => ⟨S1x4x5000, .f32⟩
  | .local _ .vmem, ⟨4, _⟩ => ⟨S1x60x4, .f32⟩
  | .local _ .vmem, ⟨5, _⟩ => ⟨S1x60x4, .f32⟩
  | .local _ .vmem, ⟨6, _⟩ => ⟨S1x60x1, .i32⟩
  | .local _ .vmem, ⟨7, _⟩ => ⟨S1x60x1, .i32⟩
  | .local _ .vmem, ⟨8, _⟩ => ⟨S1x1x5000, .f32⟩
  | .local _ .vmem, ⟨9, _⟩ => ⟨S1x60x1, .f32⟩
  | .local _ .vmem, ⟨10, _⟩ => ⟨S1x8x128, .f32⟩
  | .local _ .vmem, ⟨11, _⟩ => ⟨S3x128, .f32⟩
  | _, _ => ⟨S8x5000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_cst : Ref sig .tc := ⟨.hbm, 8, rfl⟩
abbrev main_call0_v4 : Ref sig .tc := ⟨.hbm, 9, rfl⟩
abbrev main_call0_v5 : Ref sig .tc := ⟨.hbm, 10, rfl⟩
abbrev main_call0_cst_0 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_cst_1 : Ref sig .tc := ⟨.hbm, 16, rfl⟩
abbrev main_call0_v10 : Ref sig .tc := ⟨.hbm, 17, rfl⟩
abbrev main_call0_v11 : Ref sig .tc := ⟨.hbm, 18, rfl⟩
abbrev main_call0_cst_2 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_call0_v17 : Ref sig .tc := ⟨.hbm, 25, rfl⟩
abbrev main_v0 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v288 : BitVec 1 := Scalar.cmpi .eq arg0 c7_i32
  let v289 : BitVec 32 := Scalar.extui v288
  let c0_i32_84 : BitVec 32 := 0#32
  let v290 : BitVec 1 := Scalar.cmpi .ne v289 c0_i32_84
  v290

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x80x5000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4x5000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x60x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x60x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x5000 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x60x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8x5000x80 : Shape := ⟨3, ![8, 5000, 80]⟩
abbrev S8x5000x4 : Shape := ⟨3, ![8, 5000, 4]⟩
abbrev S8x60x4 : Shape := ⟨3, ![8, 60, 4]⟩
abbrev S8x60 : Shape := ⟨2, ![8, 60]⟩
abbrev S8x5000x1 : Shape := ⟨3, ![8, 5000, 1]⟩
abbrev S8x5000 : Shape := ⟨2, ![8, 5000]⟩
abbrev S8x60x1 : Shape := ⟨3, ![8, 60, 1]⟩
abbrev S8x5000x2 : Shape := ⟨3, ![8, 5000, 2]⟩
abbrev S8x5000x1x2 : Shape := ⟨4, ![8, 5000, 1, 2]⟩
abbrev S8x60x2 : Shape := ⟨3, ![8, 60, 2]⟩
abbrev S8x1x60x2 : Shape := ⟨4, ![8, 1, 60, 2]⟩
abbrev S8x5000x60x2 : Shape := ⟨4, ![8, 5000, 60, 2]⟩
abbrev S_ : Shape := ⟨0, ![]⟩
abbrev S8x5000x60x1 : Shape := ⟨4, ![8, 5000, 60, 1]⟩
abbrev S8x5000x60 : Shape := ⟨3, ![8, 5000, 60]⟩
abbrev S8x1x60 : Shape := ⟨3, ![8, 1, 60]⟩
abbrev S8x60x5000 : Shape := ⟨3, ![8, 60, 5000]⟩
abbrev S8x60x8 : Shape := ⟨3, ![8, 60, 8]⟩
abbrev S8x8x60 : Shape := ⟨3, ![8, 8, 60]⟩
abbrev S8x1x8x60 : Shape := ⟨4, ![8, 1, 8, 60]⟩
abbrev S5000 : Shape := ⟨1, ![5000]⟩
abbrev S5000x1x1 : Shape := ⟨3, ![5000, 1, 1]⟩
abbrev S1x5000x1x1 : Shape := ⟨4, ![1, 5000, 1, 1]⟩
abbrev S8x5000x8x60 : Shape := ⟨4, ![8, 5000, 8, 60]⟩
abbrev S5000x60 : Shape := ⟨2, ![5000, 60]⟩
abbrev S5000x1 : Shape := ⟨2, ![5000, 1]⟩
abbrev S60 : Shape := ⟨1, ![60]⟩
abbrev S1x60 : Shape := ⟨2, ![1, 60]⟩
abbrev S1x1x60 : Shape := ⟨3, ![1, 1, 60]⟩
abbrev S5000x4 : Shape := ⟨2, ![5000, 4]⟩
abbrev S80 : Shape := ⟨1, ![80]⟩
abbrev S1x80 : Shape := ⟨2, ![1, 80]⟩
abbrev S1x1x80 : Shape := ⟨3, ![1, 1, 80]⟩
abbrev S8 : Shape := ⟨1, ![8]⟩
abbrev S1x8 : Shape := ⟨2, ![1, 8]⟩
abbrev S2x8 : Shape := ⟨2, ![2, 8]⟩

abbrev nBuf : Space → Nat
  | .hbm => 404
  | .vmem => 0
  | .smem => 0
  | _ => 0

abbrev hbmTy0_0 (i : Nat) : BufTy := match i % 128 with
  | 0 => ⟨S8x5000x80, .f32⟩
  | 1 => ⟨S8x5000x4, .f32⟩
  | 2 => ⟨S8x60x4, .f32⟩
  | 3 => ⟨S8x60, .i32⟩
  | 4 => ⟨S8x5000x1, .f32⟩
  | 5 => ⟨S8x5000, .f32⟩
  | 6 => ⟨S8x5000x1, .f32⟩
  | 7 => ⟨S8x5000, .f32⟩
  | 8 => ⟨S8x5000, .f32⟩
  | 9 => ⟨S8x5000x1, .f32⟩
  | 10 => ⟨S8x5000, .f32⟩
  | 11 => ⟨S8x5000x1, .f32⟩
  | 12 => ⟨S8x5000, .f32⟩
  | 13 => ⟨S8x5000, .f32⟩
  | 14 => ⟨S8x5000, .f32⟩
  | 15 => ⟨S8x60x1, .f32⟩
  | 16 => ⟨S8x60, .f32⟩
  | 17 => ⟨S8x60x1, .f32⟩
  | 18 => ⟨S8x60, .f32⟩
  | 19 => ⟨S8x60, .f32⟩
  | 20 => ⟨S8x60x1, .f32⟩
  | 21 => ⟨S8x60, .f32⟩
  | 22 => ⟨S8x60x1, .f32⟩
  | 23 => ⟨S8x60, .f32⟩
  | 24 => ⟨S8x60, .f32⟩
  | 25 => ⟨S8x60, .f32⟩
  | 26 => ⟨S8x5000x2, .f32⟩
  | 27 => ⟨S8x5000x1x2, .f32⟩
  | 28 => ⟨S8x60x2, .f32⟩
  | 29 => ⟨S8x1x60x2, .f32⟩
  | 30 => ⟨S8x5000x60x2, .f32⟩
  | 31 => ⟨S8x5000x60x2, .f32⟩
  | 32 => ⟨S8x5000x60x2, .f32⟩
  | 33 => ⟨S8x5000x2, .f32⟩
  | 34 => ⟨S8x5000x1x2, .f32⟩
  | 35 => ⟨S8x60x2, .f32⟩
  | 36 => ⟨S8x1x60x2, .f32⟩
  | 37 => ⟨S8x5000x60x2, .f32⟩
  | 38 => ⟨S8x5000x60x2, .f32⟩
  | 39 => ⟨S8x5000x60x2, .f32⟩
  | 40 => ⟨S8x5000x60x2, .f32⟩
  | 41 => ⟨S_, .f32⟩
  | 42 => ⟨S_, .f32⟩
  | 43 => ⟨S8x5000x60x2, .f32⟩
  | 44 => ⟨S8x5000x60x2, .f32⟩
  | 45 => ⟨S8x5000x60x1, .f32⟩
  | 46 => ⟨S8x5000x60, .f32⟩
  | 47 => ⟨S8x5000x60x1, .f32⟩
  | 48 => ⟨S8x5000x60, .f32⟩
  | 49 => ⟨S8x5000x60, .f32⟩
  | 50 => ⟨S8x5000x1, .f32⟩
  | 51 => ⟨S8x1x60, .f32⟩
  | 52 => ⟨S8x5000x60, .f32⟩
  | 53 => ⟨S8x5000x60, .f32⟩
  | 54 => ⟨S8x5000x60, .f32⟩
  | 55 => ⟨S8x5000x60, .f32⟩
  | 56 => ⟨S_, .f32⟩
  | 57 => ⟨S8x5000x60, .f32⟩
  | 58 => ⟨S8x5000x60, .f32⟩
  | 59 => ⟨S8x5000x60, .f32⟩
  | 60 => ⟨S_, .i32⟩
  | 61 => ⟨S8x60, .i32⟩
  | 62 => ⟨S8x60, .i1⟩
  | 63 => ⟨S_, .i32⟩
  | 64 => ⟨S8x60, .i32⟩
  | 65 => ⟨S8x60, .i32⟩
  | 66 => ⟨S8x60, .i32⟩
  | 67 => ⟨S8x60x1, .i32⟩
  | 68 => ⟨S8x5000x60, .f32⟩
  | 69 => ⟨S_, .f32⟩
  | 70 => ⟨S8x5000x60, .f32⟩
  | 71 => ⟨S8x5000x60, .f32⟩
  | 72 => ⟨S_, .f32⟩
  | 73 => ⟨S8x5000x60, .f32⟩
  | 74 => ⟨S8x5000x60, .f32⟩
  | 75 => ⟨S8x5000x60, .f32⟩
  | 76 => ⟨S8x60x5000, .f32⟩
  | 77 => ⟨S8x60x8, .f32⟩
  | 78 => ⟨S8x60x8, .i32⟩
  | 79 => ⟨S8x8x60, .i32⟩
  | 80 => ⟨S8x1x8x60, .i32⟩
  | 81 => ⟨S5000, .i32⟩
  | 82 => ⟨S5000x1x1, .i32⟩
  | 83 => ⟨S1x5000x1x1, .i32⟩
  | 84 => ⟨S8x5000x8x60, .i32⟩
  | 85 => ⟨S8x5000x8x60, .i32⟩
  | 86 => ⟨S8x5000x8x60, .i1⟩
  | 87 => ⟨S_, .i1⟩
  | 88 => ⟨S8x5000x60, .i1⟩
  | 89 => ⟨S_, .f32⟩
  | 90 => ⟨S_, .f32⟩
  | 91 => ⟨S5000x60, .f32⟩
  | 92 => ⟨S8x5000x60, .f32⟩
  | 93 => ⟨S8x5000x60, .f32⟩
  | 94 => ⟨S8x5000x1, .f32⟩
  | 95 => ⟨S8x5000x1, .i32⟩
  | 96 => ⟨S8x5000, .i32⟩
  | 97 => ⟨S_, .i1⟩
  | 98 => ⟨S8x5000, .i1⟩
  | 99 => ⟨S5000, .i32⟩
  | 100 => ⟨S_, .i32⟩
  | 101 => ⟨S5000, .i32⟩
  | 102 => ⟨S5000, .i1⟩
  | 103 => ⟨S_, .i32⟩
  | 104 => ⟨S5000, .i32⟩
  | 105 => ⟨S5000, .i32⟩
  | 106 => ⟨S5000, .i32⟩
  | 107 => ⟨S_, .i32⟩
  | 108 => ⟨S8x5000, .i32⟩
  | 109 => ⟨S8x5000, .i1⟩
  | 110 => ⟨S_, .i32⟩
  | 111 => ⟨S8x5000, .i32⟩
  | 112 => ⟨S8x5000, .i32⟩
  | 113 => ⟨S8x5000, .i32⟩
  | 114 => ⟨S5000x1, .i32⟩
  | 115 => ⟨S8x5000x1, .i32⟩
  | 116 => ⟨S8x5000x1, .i32⟩
  | 117 => ⟨S8x5000x2, .i32⟩
  | 118 => ⟨S8x5000, .f32⟩
  | 119 => ⟨S_, .f32⟩
  | 120 => ⟨S_, .f32⟩
  | 121 => ⟨S5000, .f32⟩
  | 122 => ⟨S8x5000, .f32⟩
  | 123 => ⟨S8x5000, .f32⟩
  | 124 => ⟨S_, .i32⟩
  | 125 => ⟨S5000, .i32⟩
  | 126 => ⟨S5000, .i1⟩
  | 127 => ⟨S_, .i32⟩
  | _ => ⟨S8x5000x80, .f32⟩

abbrev hbmTy0_1 (i : Nat) : BufTy := match i % 128 with
  | 0 => ⟨S5000, .i32⟩
  | 1 => ⟨S5000, .i32⟩
  | 2 => ⟨S5000, .i32⟩
  | 3 => ⟨S_, .i32⟩
  | 4 => ⟨S8x5000, .i32⟩
  | 5 => ⟨S8x5000, .i1⟩
  | 6 => ⟨S_, .i32⟩
  | 7 => ⟨S8x5000, .i32⟩
  | 8 => ⟨S8x5000, .i32⟩
  | 9 => ⟨S8x5000, .i32⟩
  | 10 => ⟨S5000x1, .i32⟩
  | 11 => ⟨S8x5000x1, .i32⟩
  | 12 => ⟨S8x5000x1, .i32⟩
  | 13 => ⟨S8x5000x2, .i32⟩
  | 14 => ⟨S8x5000, .f32⟩
  | 15 => ⟨S_, .f32⟩
  | 16 => ⟨S_, .f32⟩
  | 17 => ⟨S5000, .f32⟩
  | 18 => ⟨S8x5000, .f32⟩
  | 19 => ⟨S8x5000, .f32⟩
  | 20 => ⟨S8x5000x1, .i1⟩
  | 21 => ⟨S8x5000x1, .i32⟩
  | 22 => ⟨S60, .i32⟩
  | 23 => ⟨S1x60, .i32⟩
  | 24 => ⟨S1x1x60, .i32⟩
  | 25 => ⟨S8x5000x60, .i32⟩
  | 26 => ⟨S8x5000x60, .i32⟩
  | 27 => ⟨S8x5000x60, .i1⟩
  | 28 => ⟨S8x5000x60, .i1⟩
  | 29 => ⟨S8x5000x60, .i1⟩
  | 30 => ⟨S8x5000x1, .f32⟩
  | 31 => ⟨S_, .f32⟩
  | 32 => ⟨S_, .f32⟩
  | 33 => ⟨S8x5000x60, .f32⟩
  | 34 => ⟨S5000x60, .f32⟩
  | 35 => ⟨S8x5000x60, .f32⟩
  | 36 => ⟨S8x5000x60, .f32⟩
  | 37 => ⟨S_, .f32⟩
  | 38 => ⟨S8x60, .f32⟩
  | 39 => ⟨S8x5000x1, .f32⟩
  | 40 => ⟨S_, .f32⟩
  | 41 => ⟨S_, .f32⟩
  | 42 => ⟨S8x5000x60, .f32⟩
  | 43 => ⟨S5000x60, .f32⟩
  | 44 => ⟨S8x5000x60, .f32⟩
  | 45 => ⟨S8x5000x60, .f32⟩
  | 46 => ⟨S_, .f32⟩
  | 47 => ⟨S8x60, .f32⟩
  | 48 => ⟨S_, .i32⟩
  | 49 => ⟨S8x5000, .i32⟩
  | 50 => ⟨S8x5000, .i1⟩
  | 51 => ⟨S_, .i32⟩
  | 52 => ⟨S8x5000, .i32⟩
  | 53 => ⟨S8x5000, .i32⟩
  | 54 => ⟨S8x5000, .i32⟩
  | 55 => ⟨S8x5000x1, .i32⟩
  | 56 => ⟨S8x5000, .f32⟩
  | 57 => ⟨S_, .f32⟩
  | 58 => ⟨S8x5000, .f32⟩
  | 59 => ⟨S8x5000, .f32⟩
  | 60 => ⟨S8x5000, .f32⟩
  | 61 => ⟨S_, .i32⟩
  | 62 => ⟨S8x5000, .i32⟩
  | 63 => ⟨S8x5000, .i1⟩
  | 64 => ⟨S_, .i32⟩
  | 65 => ⟨S8x5000, .i32⟩
  | 66 => ⟨S8x5000, .i32⟩
  | 67 => ⟨S8x5000, .i32⟩
  | 68 => ⟨S8x5000x1, .i32⟩
  | 69 => ⟨S8x5000, .f32⟩
  | 70 => ⟨S8x5000, .f32⟩
  | 71 => ⟨S_, .f32⟩
  | 72 => ⟨S_, .f32⟩
  | 73 => ⟨S5000, .f32⟩
  | 74 => ⟨S8x5000, .f32⟩
  | 75 => ⟨S8x5000, .f32⟩
  | 76 => ⟨S_, .i32⟩
  | 77 => ⟨S8x5000, .i32⟩
  | 78 => ⟨S8x5000, .i1⟩
  | 79 => ⟨S_, .i32⟩
  | 80 => ⟨S8x5000, .i32⟩
  | 81 => ⟨S8x5000, .i32⟩
  | 82 => ⟨S8x5000, .i32⟩
  | 83 => ⟨S8x5000x1, .i32⟩
  | 84 => ⟨S8x5000, .i32⟩
  | 85 => ⟨S_, .i32⟩
  | 86 => ⟨S_, .i32⟩
  | 87 => ⟨S5000, .i32⟩
  | 88 => ⟨S8x5000, .i32⟩
  | 89 => ⟨S8x5000, .i32⟩
  | 90 => ⟨S8x5000x1, .i1⟩
  | 91 => ⟨S_, .i32⟩
  | 92 => ⟨S8x5000, .i32⟩
  | 93 => ⟨S8x5000, .i1⟩
  | 94 => ⟨S_, .i32⟩
  | 95 => ⟨S8x5000, .i32⟩
  | 96 => ⟨S8x5000, .i32⟩
  | 97 => ⟨S8x5000, .i32⟩
  | 98 => ⟨S8x5000x1, .i32⟩
  | 99 => ⟨S8x5000x4, .f32⟩
  | 100 => ⟨S_, .f32⟩
  | 101 => ⟨S_, .f32⟩
  | 102 => ⟨S8x5000x4, .i1⟩
  | 103 => ⟨S5000x4, .f32⟩
  | 104 => ⟨S8x5000x4, .f32⟩
  | 105 => ⟨S8x5000x4, .f32⟩
  | 106 => ⟨S_, .f32⟩
  | 107 => ⟨S_, .f32⟩
  | 108 => ⟨S_, .f32⟩
  | 109 => ⟨S8x5000x80, .f32⟩
  | 110 => ⟨S8x5000x80, .f32⟩
  | 111 => ⟨S_, .f32⟩
  | 112 => ⟨S8x5000x80, .f32⟩
  | 113 => ⟨S8x5000x80, .f32⟩
  | 114 => ⟨S_, .f32⟩
  | 115 => ⟨S8x5000x80, .f32⟩
  | 116 => ⟨S8x5000x80, .f32⟩
  | 117 => ⟨S8x5000x80, .f32⟩
  | 118 => ⟨S8x5000x80, .f32⟩
  | 119 => ⟨S_, .f32⟩
  | 120 => ⟨S8x5000x80, .f32⟩
  | 121 => ⟨S8x5000x80, .f32⟩
  | 122 => ⟨S8x5000x80, .f32⟩
  | 123 => ⟨S_, .i32⟩
  | 124 => ⟨S_, .i32⟩
  | 125 => ⟨S5000, .i32⟩
  | 126 => ⟨S8x5000, .i32⟩
  | 127 => ⟨S8x5000, .i32⟩
  | _ => ⟨S8x5000x80, .f32⟩

abbrev hbmTy0_2 (i : Nat) : BufTy := match i % 128 with
  | 0 => ⟨S_, .i32⟩
  | 1 => ⟨S5000, .i32⟩
  | 2 => ⟨S5000, .i1⟩
  | 3 => ⟨S_, .i32⟩
  | 4 => ⟨S5000, .i32⟩
  | 5 => ⟨S5000, .i32⟩
  | 6 => ⟨S5000, .i32⟩
  | 7 => ⟨S_, .i32⟩
  | 8 => ⟨S8x5000, .i32⟩
  | 9 => ⟨S8x5000, .i1⟩
  | 10 => ⟨S_, .i32⟩
  | 11 => ⟨S8x5000, .i32⟩
  | 12 => ⟨S8x5000, .i32⟩
  | 13 => ⟨S8x5000, .i32⟩
  | 14 => ⟨S5000x1, .i32⟩
  | 15 => ⟨S8x5000x1, .i32⟩
  | 16 => ⟨S8x5000x1, .i32⟩
  | 17 => ⟨S8x5000x2, .i32⟩
  | 18 => ⟨S8x5000, .f32⟩
  | 19 => ⟨S8x5000, .f32⟩
  | 20 => ⟨S8x5000, .f32⟩
  | 21 => ⟨S_, .f32⟩
  | 22 => ⟨S8x5000, .f32⟩
  | 23 => ⟨S8x5000, .f32⟩
  | 24 => ⟨S_, .f32⟩
  | 25 => ⟨S8x5000, .f32⟩
  | 26 => ⟨S8x5000, .f32⟩
  | 27 => ⟨S8x5000, .f32⟩
  | 28 => ⟨S8x5000, .f32⟩
  | 29 => ⟨S8x5000, .f32⟩
  | 30 => ⟨S8x5000, .f32⟩
  | 31 => ⟨S8x5000, .f32⟩
  | 32 => ⟨S8x5000, .f32⟩
  | 33 => ⟨S_, .f32⟩
  | 34 => ⟨S8x5000, .f32⟩
  | 35 => ⟨S8x5000, .f32⟩
  | 36 => ⟨S8x5000, .f32⟩
  | 37 => ⟨S8x5000x1, .i1⟩
  | 38 => ⟨S80, .i32⟩
  | 39 => ⟨S1x80, .i32⟩
  | 40 => ⟨S8x5000x1, .i32⟩
  | 41 => ⟨S1x1x80, .i32⟩
  | 42 => ⟨S8x5000x80, .i32⟩
  | 43 => ⟨S8x5000x80, .i32⟩
  | 44 => ⟨S8x5000x80, .i1⟩
  | 45 => ⟨S8x5000x80, .i1⟩
  | 46 => ⟨S8x5000x80, .i1⟩
  | 47 => ⟨S8x5000x1, .f32⟩
  | 48 => ⟨S8x5000x80, .f32⟩
  | 49 => ⟨S8x5000x80, .f32⟩
  | 50 => ⟨S_, .f32⟩
  | 51 => ⟨S8x5000, .f32⟩
  | 52 => ⟨S_, .f32⟩
  | 53 => ⟨S8, .f32⟩
  | 54 => ⟨S8x5000x2, .f32⟩
  | 55 => ⟨S8x5000x2, .f32⟩
  | 56 => ⟨S8x5000x2, .f32⟩
  | 57 => ⟨S8x5000x2, .f32⟩
  | 58 => ⟨S8x5000x2, .f32⟩
  | 59 => ⟨S8x5000x2, .f32⟩
  | 60 => ⟨S8x5000x2, .f32⟩
  | 61 => ⟨S_, .f32⟩
  | 62 => ⟨S_, .f32⟩
  | 63 => ⟨S8x5000x2, .f32⟩
  | 64 => ⟨S8x5000x2, .f32⟩
  | 65 => ⟨S8x5000x1, .f32⟩
  | 66 => ⟨S8x5000, .f32⟩
  | 67 => ⟨S8x5000x1, .f32⟩
  | 68 => ⟨S8x5000, .f32⟩
  | 69 => ⟨S8x5000, .f32⟩
  | 70 => ⟨S8x5000x1, .f32⟩
  | 71 => ⟨S8x5000, .f32⟩
  | 72 => ⟨S8x5000x1, .f32⟩
  | 73 => ⟨S8x5000, .f32⟩
  | 74 => ⟨S8x5000, .f32⟩
  | 75 => ⟨S8x5000x1, .f32⟩
  | 76 => ⟨S8x5000, .f32⟩
  | 77 => ⟨S8x5000x1, .f32⟩
  | 78 => ⟨S8x5000, .f32⟩
  | 79 => ⟨S8x5000, .f32⟩
  | 80 => ⟨S8x5000, .f32⟩
  | 81 => ⟨S8x5000x1, .f32⟩
  | 82 => ⟨S8x5000, .f32⟩
  | 83 => ⟨S8x5000x1, .f32⟩
  | 84 => ⟨S8x5000, .f32⟩
  | 85 => ⟨S8x5000, .f32⟩
  | 86 => ⟨S8x5000x1, .f32⟩
  | 87 => ⟨S8x5000, .f32⟩
  | 88 => ⟨S8x5000x1, .f32⟩
  | 89 => ⟨S8x5000, .f32⟩
  | 90 => ⟨S8x5000, .f32⟩
  | 91 => ⟨S8x5000, .f32⟩
  | 92 => ⟨S8x5000, .f32⟩
  | 93 => ⟨S8x5000, .f32⟩
  | 94 => ⟨S_, .f32⟩
  | 95 => ⟨S8x5000, .f32⟩
  | 96 => ⟨S8x5000, .f32⟩
  | 97 => ⟨S8x5000, .f32⟩
  | 98 => ⟨S8x5000x2, .f32⟩
  | 99 => ⟨S8x5000x2, .f32⟩
  | 100 => ⟨S8x5000x2, .f32⟩
  | 101 => ⟨S8x5000x2, .f32⟩
  | 102 => ⟨S8x5000x2, .f32⟩
  | 103 => ⟨S8x5000x2, .f32⟩
  | 104 => ⟨S8x5000x2, .f32⟩
  | 105 => ⟨S_, .f32⟩
  | 106 => ⟨S_, .f32⟩
  | 107 => ⟨S8x5000x2, .f32⟩
  | 108 => ⟨S8x5000x2, .f32⟩
  | 109 => ⟨S8x5000x1, .f32⟩
  | 110 => ⟨S8x5000, .f32⟩
  | 111 => ⟨S8x5000x1, .f32⟩
  | 112 => ⟨S8x5000, .f32⟩
  | 113 => ⟨S8x5000, .f32⟩
  | 114 => ⟨S8x5000, .f32⟩
  | 115 => ⟨S_, .f32⟩
  | 116 => ⟨S8x5000, .f32⟩
  | 117 => ⟨S8x5000, .f32⟩
  | 118 => ⟨S8x5000, .f32⟩
  | 119 => ⟨S8x5000, .f32⟩
  | 120 => ⟨S_, .f32⟩
  | 121 => ⟨S8x5000, .f32⟩
  | 122 => ⟨S8x5000, .f32⟩
  | 123 => ⟨S8x5000, .f32⟩
  | 124 => ⟨S_, .f32⟩
  | 125 => ⟨S8, .f32⟩
  | 126 => ⟨S_, .f32⟩
  | 127 => ⟨S8, .f32⟩
  | _ => ⟨S8x5000x80, .f32⟩

abbrev hbmTy0_3 (i : Nat) : BufTy := match i % 128 with
  | 0 => ⟨S8, .f32⟩
  | 1 => ⟨S_, .f32⟩
  | 2 => ⟨S8, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S_, .f32⟩
  | 13 => ⟨S8, .f32⟩
  | 14 => ⟨S8, .f32⟩
  | 15 => ⟨S8, .f32⟩
  | 16 => ⟨S8, .f32⟩
  | 17 => ⟨S1x8, .f32⟩
  | 18 => ⟨S1x8, .f32⟩
  | 19 => ⟨S2x8, .f32⟩
  | _ => ⟨S8x5000x80, .f32⟩

abbrev hbmTy (i : Nat) : BufTy := match i / 128 with
  | 0 => hbmTy0_0 i
  | 1 => hbmTy0_1 i
  | 2 => hbmTy0_2 i
  | 3 => hbmTy0_3 i
  | _ => ⟨S8x5000x80, .f32⟩

abbrev bufTy : (tb : Table) → Fin (tcTables nBuf tb) → BufTy
  | .hbm, ⟨i, _⟩ => hbmTy i
  | _, _ => ⟨S8x5000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_cst : Ref sig .tc := ⟨.hbm, 41, rfl⟩
abbrev main_call0_v0 : Ref sig .tc := ⟨.hbm, 42, rfl⟩
abbrev main_call0_v1 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst_0 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_c : Ref sig .tc := ⟨.hbm, 60, rfl⟩
abbrev main_v52 : Ref sig .tc := ⟨.hbm, 61, rfl⟩
abbrev main_v53 : Ref sig .tc := ⟨.hbm, 62, rfl⟩
abbrev main_c_1 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_2 : Ref sig .tc := ⟨.hbm, 69, rfl⟩
abbrev main_v59 : Ref sig .tc := ⟨.hbm, 70, rfl⟩
abbrev main_v60 : Ref sig .tc := ⟨.hbm, 71, rfl⟩
abbrev main_cst_3 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_values : Ref sig .tc := ⟨.hbm, 77, rfl⟩
abbrev main_indices : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_c_4 : Ref sig .tc := ⟨.hbm, 87, rfl⟩
abbrev main_v73 : Ref sig .tc := ⟨.hbm, 88, rfl⟩
abbrev main_cst_5 : Ref sig .tc := ⟨.hbm, 89, rfl⟩
abbrev main_call1_v0 : Ref sig .tc := ⟨.hbm, 90, rfl⟩
abbrev main_call1_v1 : Ref sig .tc := ⟨.hbm, 91, rfl⟩
abbrev main_call1_v2 : Ref sig .tc := ⟨.hbm, 92, rfl⟩
abbrev main_v74 : Ref sig .tc := ⟨.hbm, 93, rfl⟩
abbrev main_values_6 : Ref sig .tc := ⟨.hbm, 94, rfl⟩
abbrev main_indices_7 : Ref sig .tc := ⟨.hbm, 95, rfl⟩
abbrev main_v75 : Ref sig .tc := ⟨.hbm, 96, rfl⟩
abbrev main_c_8 : Ref sig .tc := ⟨.hbm, 97, rfl⟩
abbrev main_v76 : Ref sig .tc := ⟨.hbm, 98, rfl⟩
abbrev main_v77 : Ref sig .tc := ⟨.hbm, 99, rfl⟩
abbrev main_c_9 : Ref sig .tc := ⟨.hbm, 100, rfl⟩
abbrev main_v78 : Ref sig .tc := ⟨.hbm, 101, rfl⟩
abbrev main_v79 : Ref sig .tc := ⟨.hbm, 102, rfl⟩
abbrev main_c_10 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_c_11 : Ref sig .tc := ⟨.hbm, 107, rfl⟩
abbrev main_v83 : Ref sig .tc := ⟨.hbm, 108, rfl⟩
abbrev main_v84 : Ref sig .tc := ⟨.hbm, 109, rfl⟩
abbrev main_c_12 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_13 : Ref sig .tc := ⟨.hbm, 119, rfl⟩
abbrev main_call2_v0 : Ref sig .tc := ⟨.hbm, 120, rfl⟩
abbrev main_call2_v1 : Ref sig .tc := ⟨.hbm, 121, rfl⟩
abbrev main_call2_v2 : Ref sig .tc := ⟨.hbm, 122, rfl⟩
abbrev main_v93 : Ref sig .tc := ⟨.hbm, 123, rfl⟩
abbrev main_c_14 : Ref sig .tc := ⟨.hbm, 124, rfl⟩
abbrev main_v94 : Ref sig .tc := ⟨.hbm, 125, rfl⟩
abbrev main_v95 : Ref sig .tc := ⟨.hbm, 126, rfl⟩
abbrev main_c_15 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_c_16 : Ref sig .tc := ⟨.hbm, 131, rfl⟩
abbrev main_v99 : Ref sig .tc := ⟨.hbm, 132, rfl⟩
abbrev main_v100 : Ref sig .tc := ⟨.hbm, 133, rfl⟩
abbrev main_c_17 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_18 : Ref sig .tc := ⟨.hbm, 143, rfl⟩
abbrev main_call3_v0 : Ref sig .tc := ⟨.hbm, 144, rfl⟩
abbrev main_call3_v1 : Ref sig .tc := ⟨.hbm, 145, rfl⟩
abbrev main_call3_v2 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_v114 : Ref sig .tc := ⟨.hbm, 152, rfl⟩
abbrev main_v115 : Ref sig .tc := ⟨.hbm, 153, rfl⟩
abbrev main_v116 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_cst_19 : Ref sig .tc := ⟨.hbm, 159, rfl⟩
abbrev main_call4_v0 : Ref sig .tc := ⟨.hbm, 160, rfl⟩
abbrev main_call4_v1 : Ref sig .tc := ⟨.hbm, 161, rfl⟩
abbrev main_call4_v2 : Ref sig .tc := ⟨.hbm, 162, rfl⟩
abbrev main_call4_v3 : Ref sig .tc := ⟨.hbm, 163, rfl⟩
abbrev main_v121 : Ref sig .tc := ⟨.hbm, 164, rfl⟩
abbrev main_cst_20 : Ref sig .tc := ⟨.hbm, 165, rfl⟩
abbrev main_v122 : Ref sig .tc := ⟨.hbm, 166, rfl⟩
abbrev main_v123 : Ref sig .tc := ⟨.hbm, 167, rfl⟩
abbrev main_cst_21 : Ref sig .tc := ⟨.hbm, 168, rfl⟩
abbrev main_call5_v0 : Ref sig .tc := ⟨.hbm, 169, rfl⟩
abbrev main_call5_v1 : Ref sig .tc := ⟨.hbm, 170, rfl⟩
abbrev main_call5_v2 : Ref sig .tc := ⟨.hbm, 171, rfl⟩
abbrev main_call5_v3 : Ref sig .tc := ⟨.hbm, 172, rfl⟩
abbrev main_v124 : Ref sig .tc := ⟨.hbm, 173, rfl⟩
abbrev main_cst_22 : Ref sig .tc := ⟨.hbm, 174, rfl⟩
abbrev main_v125 : Ref sig .tc := ⟨.hbm, 175, rfl⟩
abbrev main_c_23 : Ref sig .tc := ⟨.hbm, 176, rfl⟩
abbrev main_v126 : Ref sig .tc := ⟨.hbm, 177, rfl⟩
abbrev main_v127 : Ref sig .tc := ⟨.hbm, 178, rfl⟩
abbrev main_c_24 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_cst_25 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_26 : Ref sig .tc := ⟨.hbm, 189, rfl⟩
abbrev main_v136 : Ref sig .tc := ⟨.hbm, 190, rfl⟩
abbrev main_v137 : Ref sig .tc := ⟨.hbm, 191, rfl⟩
abbrev main_c_27 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_cst_28 : Ref sig .tc := ⟨.hbm, 199, rfl⟩
abbrev main_call6_v0 : Ref sig .tc := ⟨.hbm, 200, rfl⟩
abbrev main_call6_v1 : Ref sig .tc := ⟨.hbm, 201, rfl⟩
abbrev main_call6_v2 : Ref sig .tc := ⟨.hbm, 202, rfl⟩
abbrev main_v144 : Ref sig .tc := ⟨.hbm, 203, rfl⟩
abbrev main_c_29 : Ref sig .tc := ⟨.hbm, 204, rfl⟩
abbrev main_v145 : Ref sig .tc := ⟨.hbm, 205, rfl⟩
abbrev main_v146 : Ref sig .tc := ⟨.hbm, 206, rfl⟩
abbrev main_c_30 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_c_31 : Ref sig .tc := ⟨.hbm, 213, rfl⟩
abbrev main_call7_v0 : Ref sig .tc := ⟨.hbm, 214, rfl⟩
abbrev main_call7_v1 : Ref sig .tc := ⟨.hbm, 215, rfl⟩
abbrev main_call7_v2 : Ref sig .tc := ⟨.hbm, 216, rfl⟩
abbrev main_v152 : Ref sig .tc := ⟨.hbm, 217, rfl⟩
abbrev main_v153 : Ref sig .tc := ⟨.hbm, 218, rfl⟩
abbrev main_c_32 : Ref sig .tc := ⟨.hbm, 219, rfl⟩
abbrev main_v154 : Ref sig .tc := ⟨.hbm, 220, rfl⟩
abbrev main_v155 : Ref sig .tc := ⟨.hbm, 221, rfl⟩
abbrev main_c_33 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_34 : Ref sig .tc := ⟨.hbm, 228, rfl⟩
abbrev main_call8_v0 : Ref sig .tc := ⟨.hbm, 229, rfl⟩
abbrev main_call8_v1 : Ref sig .tc := ⟨.hbm, 230, rfl⟩
abbrev main_call8_v2 : Ref sig .tc := ⟨.hbm, 231, rfl⟩
abbrev main_call8_v3 : Ref sig .tc := ⟨.hbm, 232, rfl⟩
abbrev main_v161 : Ref sig .tc := ⟨.hbm, 233, rfl⟩
abbrev main_cst_35 : Ref sig .tc := ⟨.hbm, 234, rfl⟩
abbrev main_cst_36 : Ref sig .tc := ⟨.hbm, 235, rfl⟩
abbrev main_call9_v0 : Ref sig .tc := ⟨.hbm, 236, rfl⟩
abbrev main_call9_v1 : Ref sig .tc := ⟨.hbm, 237, rfl⟩
abbrev main_call9_v2 : Ref sig .tc := ⟨.hbm, 238, rfl⟩
abbrev main_call9_v3 : Ref sig .tc := ⟨.hbm, 239, rfl⟩
abbrev main_call9_v4 : Ref sig .tc := ⟨.hbm, 240, rfl⟩
abbrev main_v162 : Ref sig .tc := ⟨.hbm, 241, rfl⟩
abbrev main_cst_37 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_cst_38 : Ref sig .tc := ⟨.hbm, 247, rfl⟩
abbrev main_v167 : Ref sig .tc := ⟨.hbm, 248, rfl⟩
abbrev main_v168 : Ref sig .tc := ⟨.hbm, 249, rfl⟩
abbrev main_v169 : Ref sig .tc := ⟨.hbm, 250, rfl⟩
abbrev main_c_39 : Ref sig .tc := ⟨.hbm, 251, rfl⟩
abbrev main_call10_v0 : Ref sig .tc := ⟨.hbm, 252, rfl⟩
abbrev main_call10_v1 : Ref sig .tc := ⟨.hbm, 253, rfl⟩
abbrev main_call10_v2 : Ref sig .tc := ⟨.hbm, 254, rfl⟩
abbrev main_v170 : Ref sig .tc := ⟨.hbm, 255, rfl⟩
abbrev main_c_40 : Ref sig .tc := ⟨.hbm, 256, rfl⟩
abbrev main_v171 : Ref sig .tc := ⟨.hbm, 257, rfl⟩
abbrev main_v172 : Ref sig .tc := ⟨.hbm, 258, rfl⟩
abbrev main_c_41 : Ref sig .tc := ⟨.hbm, 259, rfl⟩
abbrev main_v173 : Ref sig .tc := ⟨.hbm, 260, rfl⟩
abbrev main_v174 : Ref sig .tc := ⟨.hbm, 261, rfl⟩
abbrev main_v175 : Ref sig .tc := ⟨.hbm, 262, rfl⟩
abbrev main_c_42 : Ref sig .tc := ⟨.hbm, 263, rfl⟩
abbrev main_v176 : Ref sig .tc := ⟨.hbm, 264, rfl⟩
abbrev main_v177 : Ref sig .tc := ⟨.hbm, 265, rfl⟩
abbrev main_c_43 : Ref sig .tc := ⟨.hbm, 266, rfl⟩
abbrev main_v178 : Ref sig .tc := ⟨.hbm, 267, rfl⟩
abbrev main_v179 : Ref sig .tc := ⟨.hbm, 268, rfl⟩
abbrev main_v180 : Ref sig .tc := ⟨.hbm, 269, rfl⟩
abbrev main_v181 : Ref sig .tc := ⟨.hbm, 270, rfl⟩
abbrev main_v182 : Ref sig .tc := ⟨.hbm, 271, rfl⟩
abbrev main_v183 : Ref sig .tc := ⟨.hbm, 272, rfl⟩
abbrev main_v184 : Ref sig .tc := ⟨.hbm, 273, rfl⟩
abbrev main_v185 : Ref sig .tc := ⟨.hbm, 274, rfl⟩
abbrev main_v186 : Ref sig .tc := ⟨.hbm, 275, rfl⟩
abbrev main_v187 : Ref sig .tc := ⟨.hbm, 276, rfl⟩
abbrev main_cst_44 : Ref sig .tc := ⟨.hbm, 277, rfl⟩
abbrev main_v188 : Ref sig .tc := ⟨.hbm, 278, rfl⟩
abbrev main_v189 : Ref sig .tc := ⟨.hbm, 279, rfl⟩
abbrev main_cst_45 : Ref sig .tc := ⟨.hbm, 280, rfl⟩
abbrev main_v190 : Ref sig .tc := ⟨.hbm, 281, rfl⟩
abbrev main_v191 : Ref sig .tc := ⟨.hbm, 282, rfl⟩
abbrev main_v192 : Ref sig .tc := ⟨.hbm, 283, rfl⟩
abbrev main_v193 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_cst_46 : Ref sig .tc := ⟨.hbm, 289, rfl⟩
abbrev main_v198 : Ref sig .tc := ⟨.hbm, 290, rfl⟩
abbrev main_v199 : Ref sig .tc := ⟨.hbm, 291, rfl⟩
abbrev main_v200 : Ref sig .tc := ⟨.hbm, 292, rfl⟩
abbrev main_v201 : Ref sig .tc := ⟨.hbm, 293, rfl⟩
abbrev main_v202 : Ref sig .tc := ⟨.hbm, 294, rfl⟩
abbrev main_v203 : Ref sig .tc := ⟨.hbm, 295, rfl⟩
abbrev main_v204 : Ref sig .tc := ⟨.hbm, 296, rfl⟩
abbrev main_v205 : Ref sig .tc := ⟨.hbm, 297, rfl⟩
abbrev main_v206 : Ref sig .tc := ⟨.hbm, 298, rfl⟩
abbrev main_v207 : Ref sig .tc := ⟨.hbm, 299, rfl⟩
abbrev main_v208 : Ref sig .tc := ⟨.hbm, 300, rfl⟩
abbrev main_v209 : Ref sig .tc := ⟨.hbm, 301, rfl⟩
abbrev main_v210 : Ref sig .tc := ⟨.hbm, 302, rfl⟩
abbrev main_v211 : Ref sig .tc := ⟨.hbm, 303, rfl⟩
abbrev main_call11_v0 : Ref sig .tc := ⟨.hbm, 304, rfl⟩
abbrev main_v212 : Ref sig .tc := ⟨.hbm, 305, rfl⟩
abbrev main_cst_47 : Ref sig .tc := ⟨.hbm, 306, rfl⟩
abbrev main_v213 : Ref sig .tc := ⟨.hbm, 307, rfl⟩
abbrev main_cst_48 : Ref sig .tc := ⟨.hbm, 308, rfl⟩
abbrev main_v214 : Ref sig .tc := ⟨.hbm, 309, rfl⟩
abbrev main_v215 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_v221 : Ref sig .tc := ⟨.hbm, 316, rfl⟩
abbrev main_cst_49 : Ref sig .tc := ⟨.hbm, 317, rfl⟩
abbrev main_call12_v0 : Ref sig .tc := ⟨.hbm, 318, rfl⟩
abbrev main_call12_v1 : Ref sig .tc := ⟨.hbm, 319, rfl⟩
abbrev main_v222 : Ref sig .tc := ⟨.hbm, 320, rfl⟩
abbrev main_v223 : Ref sig .tc := ⟨.hbm, 321, rfl⟩
abbrev main_v224 : Ref sig .tc := ⟨.hbm, 322, rfl⟩
abbrev main_v225 : Ref sig .tc := ⟨.hbm, 323, rfl⟩
abbrev main_v226 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_v231 : Ref sig .tc := ⟨.hbm, 329, rfl⟩
abbrev main_v232 : Ref sig .tc := ⟨.hbm, 330, rfl⟩
abbrev main_v233 : Ref sig .tc := ⟨.hbm, 331, rfl⟩
abbrev main_v234 : Ref sig .tc := ⟨.hbm, 332, rfl⟩
abbrev main_v235 : Ref sig .tc := ⟨.hbm, 333, rfl⟩
abbrev main_v236 : Ref sig .tc := ⟨.hbm, 334, rfl⟩
abbrev main_v237 : Ref sig .tc := ⟨.hbm, 335, rfl⟩
abbrev main_v238 : Ref sig .tc := ⟨.hbm, 336, rfl⟩
abbrev main_v239 : Ref sig .tc := ⟨.hbm, 337, rfl⟩
abbrev main_v240 : Ref sig .tc := ⟨.hbm, 338, rfl⟩
abbrev main_v241 : Ref sig .tc := ⟨.hbm, 339, rfl⟩
abbrev main_v242 : Ref sig .tc := ⟨.hbm, 340, rfl⟩
abbrev main_v243 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_v247 : Ref sig .tc := ⟨.hbm, 345, rfl⟩
abbrev main_v248 : Ref sig .tc := ⟨.hbm, 346, rfl⟩
abbrev main_v249 : Ref sig .tc := ⟨.hbm, 347, rfl⟩
abbrev main_v250 : Ref sig .tc := ⟨.hbm, 348, rfl⟩
abbrev main_v251 : Ref sig .tc := ⟨.hbm, 349, rfl⟩
abbrev main_cst_50 : Ref sig .tc := ⟨.hbm, 350, rfl⟩
abbrev main_v252 : Ref sig .tc := ⟨.hbm, 351, rfl⟩
abbrev main_v253 : Ref sig .tc := ⟨.hbm, 352, rfl⟩
abbrev main_v254 : Ref sig .tc := ⟨.hbm, 353, rfl⟩
abbrev main_v255 : Ref sig .tc := ⟨.hbm, 354, rfl⟩
abbrev main_v256 : Ref sig .tc := ⟨.hbm, 355, rfl⟩
abbrev main_v257 : Ref sig .tc := ⟨.hbm, 356, rfl⟩
abbrev main_v258 : Ref sig .tc := ⟨.hbm, 357, rfl⟩
abbrev main_v259 : Ref sig .tc := ⟨.hbm, 358, rfl⟩
abbrev main_v260 : Ref sig .tc := ⟨.hbm, 359, rfl⟩
abbrev main_v261 : Ref sig .tc := ⟨.hbm, 360, rfl⟩
abbrev main_cst_51 : Ref sig .tc := ⟨.hbm, 361, rfl⟩
abbrev main_call13_v0 : Ref sig .tc := ⟨.hbm, 362, rfl⟩
abbrev main_call13_v1 : Ref sig .tc := ⟨.hbm, 363, rfl⟩
abbrev main_v262 : Ref sig .tc := ⟨.hbm, 364, rfl⟩
abbrev main_v263 : Ref sig .tc := ⟨.hbm, 365, rfl⟩
abbrev main_v264 : Ref sig .tc := ⟨.hbm, 366, rfl⟩
abbrev main_v265 : Ref sig .tc := ⟨.hbm, 367, rfl⟩
abbrev main_v266 : Ref sig .tc := ⟨.hbm, 368, rfl⟩
abbrev main_v267 : Ref sig .tc := ⟨.hbm, 369, rfl⟩
abbrev main_v268 : Ref sig .tc := ⟨.hbm, 370, rfl⟩
abbrev main_cst_52 : Ref sig .tc := ⟨.hbm, 371, rfl⟩
abbrev main_v269 : Ref sig .tc := ⟨.hbm, 372, rfl⟩
abbrev main_v270 : Ref sig .tc := ⟨.hbm, 373, rfl⟩
abbrev main_v271 : Ref sig .tc := ⟨.hbm, 374, rfl⟩
abbrev main_v272 : Ref sig .tc := ⟨.hbm, 375, rfl⟩
abbrev main_cst_53 : Ref sig .tc := ⟨.hbm, 376, rfl⟩
abbrev main_v273 : Ref sig .tc := ⟨.hbm, 377, rfl⟩
abbrev main_v274 : Ref sig .tc := ⟨.hbm, 378, rfl⟩
abbrev main_v275 : Ref sig .tc := ⟨.hbm, 379, rfl⟩
abbrev main_cst_54 : Ref sig .tc := ⟨.hbm, 380, rfl⟩
abbrev main_v276 : Ref sig .tc := ⟨.hbm, 381, rfl⟩
abbrev main_cst_55 : Ref sig .tc := ⟨.hbm, 382, rfl⟩
abbrev main_v277 : Ref sig .tc := ⟨.hbm, 383, rfl⟩
abbrev main_v278 : Ref sig .tc := ⟨.hbm, 384, rfl⟩
abbrev main_cst_56 : Ref sig .tc := ⟨.hbm, 385, rfl⟩
abbrev main_v279 : Ref sig .tc := ⟨.hbm, 386, rfl⟩
abbrev main_cst_57 : Ref sig .tc := ⟨.hbm, 387, rfl⟩
abbrev main_v280 : Ref sig .tc := ⟨.hbm, 388, rfl⟩
abbrev main_cst_58 : Ref sig .tc := ⟨.hbm, 389, rfl⟩
abbrev main_call14_v0 : Ref sig .tc := ⟨.hbm, 390, rfl⟩
abbrev main_v281 : Ref sig .tc := ⟨.hbm, 391, rfl⟩
abbrev main_cst_59 : Ref sig .tc := ⟨.hbm, 392, rfl⟩
abbrev main_v282 : Ref sig .tc := ⟨.hbm, 393, rfl⟩
abbrev main_cst_60 : Ref sig .tc := ⟨.hbm, 394, rfl⟩
abbrev main_call15_v0 : Ref sig .tc := ⟨.hbm, 395, rfl⟩
abbrev main_v283 : Ref sig .tc := ⟨.hbm, 396, rfl⟩
abbrev main_v284 : Ref sig .tc := ⟨.hbm, 397, rfl⟩
abbrev main_v285 : Ref sig .tc := ⟨.hbm, 398, rfl⟩
abbrev main_v286 : Ref sig .tc := ⟨.hbm, 399, rfl⟩
abbrev main_v287 : Ref sig .tc := ⟨.hbm, 400, rfl⟩
abbrev main_v288 : Ref sig .tc := ⟨.hbm, 401, rfl⟩
abbrev main_v289 : Ref sig .tc := ⟨.hbm, 402, rfl⟩
abbrev main_v290 : Ref sig .tc := ⟨.hbm, 403, rfl⟩

abbrev nD : Nat := 1
abbrev τ : Topo := Topo.v7x

variable {F : FTy → Type} [FloatOps F]
-- ==== Proof.Spec.lean ====
/- What one image's loss is, and the mathematics both programs share: how the eight best anchors of a target are
   found, which target an anchor is assigned to, and how the classification sums regroup. Everything is over the
   extended reals; nothing here mentions a program. -/
module

public import Idealize.ShloMosaic.Lib.Pointwise
public import Idealize.ShloMosaic.PureOps.Ideal

@[expose] public section

noncomputable section

namespace Cert.Loss

open Idealize.ShloMosaic

/-! ## The constants -/

/-- The floor under a union, an enclosing area and a normaliser (about `1e-7`). -/
def tiny : EReal := Ideal.ofBits .f32 0x33D6BF95#32
/-- The lower clip of a probability (about `1e-12`). -/
def eps : EReal := Ideal.ofBits .f32 0x2B8CBCCC#32
/-- The mark of an anchor already taken (about `-1e30`). -/
def taken : EReal := Ideal.ofBits .f32 0xF149F2CA#32
/-- The threshold that tells a taken anchor (about `-1e29`). -/
def mark : EReal := Ideal.ofBits .f32 0xEFA18F08#32
/-- The filler of a pair that is not a candidate (about `-1e9`). -/
def filler : EReal := Ideal.ofBits .f32 0xCE6E6B28#32

/-- The guard of the divisions is positive. -/
theorem tiny_pos : 0 < tiny := by
  rw [tiny, show Ideal.ofBits .f32 0x33D6BF95#32 = ((14073749 * (2:ℝ)^(-47:ℤ) : ℝ) : EReal) by
    simp [Ideal.ofBits, Ideal.ieee, -EReal.coe_mul]]
  exact EReal.coe_pos.mpr (by positivity)

/-- The clipping bound as a real number. -/
theorem eps_eq : eps = ((9223372 * (2:ℝ)^(-63:ℤ) : ℝ) : EReal) := by
  simp [eps, Ideal.ofBits, Ideal.ieee, -EReal.coe_mul]

/-- The clipping bound is positive. -/
theorem eps_pos : 0 < eps := by rw [eps_eq]; exact EReal.coe_pos.mpr (by positivity)

/-- The clipping bound is below one. -/
theorem eps_lt_one : eps < 1 := by
  rw [eps_eq, show (1 : EReal) = ((1 : ℝ) : EReal) by norm_cast]
  exact EReal.coe_lt_coe_iff.mpr (by norm_num)

/-- The mark of a taken anchor is below the threshold that tells it. -/
theorem taken_lt_mark : taken < mark := by
  rw [taken, mark, show Ideal.ofBits .f32 0xF149F2CA#32 = ((-(13234890 * (2:ℝ)^(76:ℤ)) : ℝ) : EReal) by
    simp [Ideal.ofBits, Ideal.ieee, -EReal.coe_mul, -EReal.coe_neg],
    show Ideal.ofBits .f32 0xEFA18F08#32 = ((-(10587912 * (2:ℝ)^(73:ℤ)) : ℝ) : EReal) by
    simp [Ideal.ofBits, Ideal.ieee, -EReal.coe_mul, -EReal.coe_neg]]
  exact EReal.coe_lt_coe_iff.mpr (by norm_num)

/-- The threshold is below minus one. -/
theorem mark_lt : mark < ((-1 : ℝ) : EReal) := by
  rw [mark,
    show Ideal.ofBits .f32 0xEFA18F08#32 = ((-(10587912 * (2:ℝ)^(73:ℤ)) : ℝ) : EReal) by
    simp [Ideal.ofBits, Ideal.ieee, -EReal.coe_mul, -EReal.coe_neg]]
  exact EReal.coe_lt_coe_iff.mpr (by norm_num)

/-- The filler is negative. -/
theorem filler_neg : filler < 0 := by
  rw [filler,
    show Ideal.ofBits .f32 0xCE6E6B28#32 = ((-(15625000 * (2:ℝ)^(6:ℤ)) : ℝ) : EReal) by
    simp [Ideal.ofBits, Ideal.ieee, -EReal.coe_mul, -EReal.coe_neg]]
  exact EReal.coe_neg'.mpr (by norm_num)

/-- The bits of minus infinity. -/
theorem ofBits_negInf : Ideal.ofBits .f32 0xFF800000#32 = (⊥ : EReal) := by
  simp [Ideal.ofBits, Ideal.ieee]

/-- The bits of two. -/
theorem ofBits_two : Ideal.ofBits .f32 0x40000000#32 = ((2 : ℝ) : EReal) := by
  simp [Ideal.ofBits, Ideal.ieee, -EReal.coe_mul]; norm_num

/-- The bits of six. -/
theorem ofBits_six : Ideal.ofBits .f32 0x40C00000#32 = ((6 : ℝ) : EReal) := by
  simp [Ideal.ofBits, Ideal.ieee, -EReal.coe_mul]; norm_num

/-! ## Boxes -/

/-- The area of a box given by its corners. -/
def area (b : Fin 4 → EReal) : EReal := (b 2 - b 0) * (b 3 - b 1)
/-- The area two boxes share. -/
def inter (p q : Fin 4 → EReal) : EReal :=
  max 0 (min (p 2) (q 2) - max (p 0) (q 0)) * max 0 (min (p 3) (q 3) - max (p 1) (q 1))
/-- The area two boxes cover. -/
def union (p q : Fin 4 → EReal) : EReal := area p + area q - inter p q
/-- Intersection over union. -/
def iou (p q : Fin 4 → EReal) : EReal := Ideal.div (inter p q) (max (union p q) tiny)
/-- The area of the box around two boxes. -/
def around (p q : Fin 4 → EReal) : EReal :=
  max 0 (max (p 2) (q 2) - min (p 0) (q 0)) * max 0 (max (p 3) (q 3) - min (p 1) (q 1))
/-- Generalised intersection over union. -/
def giou (p q : Fin 4 → EReal) : EReal :=
  iou p q - Ideal.div (around p q - union p q) (max (around p q) tiny)

/-- An intersection is not negative. -/
theorem inter_nonneg (p q : Fin 4 → EReal) : 0 ≤ inter p q :=
  mul_nonneg (le_max_left _ _) (le_max_left _ _)

/-- An overlap is not negative. -/
theorem iou_nonneg (p q : Fin 4 → EReal) : 0 ≤ iou p q := by
  have h : 0 < max (union p q) tiny := lt_of_lt_of_le tiny_pos (le_max_right _ _)
  rw [iou, Ideal.div, if_neg h.ne']
  exact mul_nonneg (inter_nonneg p q) (EReal.inv_nonneg_of_nonneg h.le)

/-- The sixth power as two products of the square. -/
def sixth (x : EReal) : EReal := x * x * (x * x) * (x * x)

/-- The sixth power of a non-negative value is not negative. -/
theorem sixth_nonneg {x : EReal} (h : 0 ≤ x) : 0 ≤ sixth x :=
  mul_nonneg (mul_nonneg (mul_nonneg h h) (mul_nonneg h h)) (mul_nonneg h h)

/-- A power with exponent six of a value that is not negative is the sixth power. -/
theorem pow_six {x : EReal} (h : 0 ≤ x) : Ideal.pow x (Ideal.ofBits .f32 0x40C00000#32) = sixth x := by
  rw [ofBits_six, sixth]
  induction x with
  | bot => simp at h
  | top => simp [Ideal.pow_top, EReal.top_mul_top]
  | coe x =>
    rw [Ideal.pow_coe_coe]
    norm_cast
    change x ^ (6 : ℝ) = _
    rw [show (6 : ℝ) = ((6 : ℕ) : ℝ) by norm_num, Real.rpow_natCast]; ring

/-- A square of a value that is not negative. -/
theorem pow_two {x : EReal} (h : 0 ≤ x) : Ideal.pow x (Ideal.ofBits .f32 0x40000000#32) = x * x := by
  rw [ofBits_two]
  induction x with
  | bot => simp at h
  | top => simp [Ideal.pow_top, EReal.top_mul_top]
  | coe x =>
    rw [Ideal.pow_coe_coe]
    norm_cast
    change x ^ (2 : ℝ) = _
    rw [show (2 : ℝ) = ((2 : ℕ) : ℝ) by norm_num, Real.rpow_natCast]; ring

/-- The first power of a value below infinity. -/
theorem pow_one {x : EReal} (h : x < ⊤) : Ideal.pow x 1 = x := by
  induction x with
  | bot => rfl
  | top => simp at h
  | coe x =>
    rw [show (1 : EReal) = ((1 : ℝ) : EReal) by norm_cast, Ideal.pow_coe_coe]
    exact congrArg _ (Real.rpow_one x)

/-! ## The largest of finitely many values -/

section Top
variable {N : Nat}

/-- The largest of the values of `f`, `⊥` of none. -/
def top (f : Fin N → EReal) : EReal := Finset.univ.fold max ⊥ f

/-- Every value is at most the largest. -/
theorem le_top (f : Fin N → EReal) (i : Fin N) : f i ≤ top f :=
  (Finset.le_fold_max _).mpr (.inr ⟨i, Finset.mem_univ i, le_rfl⟩)

/-- A bound of every value bounds the largest. -/
theorem top_le {f : Fin N → EReal} {b : EReal} (h : ∀ i, f i ≤ b) : top f ≤ b :=
  (Finset.fold_max_le _).mpr ⟨bot_le, fun i _ => h i⟩

/-- A value no other exceeds is the largest. -/
theorem top_eq {f : Fin N → EReal} (i : Fin N) (h : ∀ k, f k ≤ f i) : top f = f i :=
  le_antisymm (top_le h) (le_top f i)

/-! ## The eight best -/

/-- `σ` lists the indices by `m` from the largest down, equal values by their index. -/
structure Ranked (m : Fin N → EReal) (σ : Fin N → Fin N) : Prop where
  surj : Function.Surjective σ
  inj : Function.Injective σ
  order : ∀ i j, i < j → m (σ j) < m (σ i) ∨ (m (σ j) = m (σ i) ∧ σ i < σ j)

open Classical in
/-- `a` where the two values are equal, else `b`. -/
def ifEq (x y a b : EReal) : EReal := if x = y then a else b

open Classical in
/-- `a` where the first value is less, else `b`. -/
def ifLt (x y a b : EReal) : EReal := if x < y then a else b

/-- One round: every place that holds the largest value is marked taken. -/
def strike (w : Fin N → EReal) : Fin N → EReal := fun n => ifEq (w n) (top w) taken (w n)

/-- The rounds' start: a positive score as it is, otherwise the place's own negative key. -/
def start (m z : Fin N → EReal) : Fin N → EReal := fun n => ifLt 0 (m n) (m n) (z n)

variable {m z : Fin N → EReal} {σ : Fin N → Fin N}

/-- The positive scores among the first eight are told apart, so the start falls strictly along the ranking. -/
theorem start_lt (hσ : Ranked m σ) (h0 : ∀ n, 0 ≤ m n) (hz : ∀ i j, i < j → z j < z i) (hz0 : ∀ n, z n < 0)
    (hap : ∀ i j : Fin N, i.val < 8 → j.val = i.val + 1 → m (σ j) < m (σ i) ∨ m (σ j) ≤ 0)
    (i j : Fin N) (hi : i.val < 8) (hij : i < j) : start m z (σ j) < start m z (σ i) := by
  unfold start ifLt
  have mono : ∀ a b : Fin N, a ≤ b → m (σ b) ≤ m (σ a) := fun a b hab => by
    rcases hab.lt_or_eq with h | rfl
    · rcases hσ.order a b h with h | h
      · exact h.le
      · exact h.1.le
    · exact le_rfl
  by_cases hp : 0 < m (σ i)
  · rw [if_pos hp]
    by_cases hq : 0 < m (σ j)
    · rw [if_pos hq]
      have hk : i.val + 1 < N := lt_of_le_of_lt hij j.isLt
      have hle := mono ⟨i.val + 1, hk⟩ j hij
      rcases hap i ⟨i.val + 1, hk⟩ hi rfl with h | h
      · exact lt_of_le_of_lt hle h
      · exact absurd (lt_of_lt_of_le hq (hle.trans h)) (lt_irrefl _)
    · rw [if_neg hq]; exact (hz0 _).trans hp
  · have hi0 : m (σ i) = 0 := le_antisymm (not_lt.mp hp) (h0 _)
    have hj0 : m (σ j) = 0 := le_antisymm (hi0 ▸ mono i j hij.le) (h0 _)
    rw [if_neg hp, if_neg (by rw [hj0]; exact lt_irrefl _)]
    rcases hσ.order i j hij with h | h
    · rw [hi0, hj0] at h; exact absurd h (lt_irrefl _)
    · exact hz _ _ h.2

open Classical in
/-- After `k` rounds exactly the first `k` of the ranking are marked. -/
theorem strikes (hσ : Ranked m σ) (h0 : ∀ n, 0 ≤ m n) (hz : ∀ i j, i < j → z j < z i) (hz0 : ∀ n, z n < 0)
    (hzm : ∀ n, mark < z n)
    (hap : ∀ i j : Fin N, i.val < 8 → j.val = i.val + 1 → m (σ j) < m (σ i) ∨ m (σ j) ≤ 0) (hN : 8 ≤ N) (k : Nat)
    (hk : k ≤ 8) : strike^[k] (start m z) = fun n => if ∃ i : Fin N, i.val < k ∧ σ i = n then taken else start m z n := by
  have hm : ∀ n, mark < start m z n := fun n => by
    unfold start ifLt; split_ifs with h
    · exact ((hzm n).trans (hz0 n)).trans h
    · exact hzm n
  induction k with
  | zero => funext n; simp
  | succ k ih =>
    have hkN : k < N := by omega
    rw [Function.iterate_succ_apply', ih (by omega)]
    set w : Fin N → EReal := fun n => if ∃ i : Fin N, i.val < k ∧ σ i = n then taken else start m z n with hw
    have hwk : w (σ ⟨k, hkN⟩) = start m z (σ ⟨k, hkN⟩) := by
      rw [hw]; dsimp only
      rw [if_neg]
      rintro ⟨i, hi, he⟩
      have := congrArg Fin.val (hσ.inj he)
      simp at this; omega
    have hlt : ∀ j, j ≠ ⟨k, hkN⟩ → w (σ j) < w (σ ⟨k, hkN⟩) := fun j hj => by
      rw [hwk, hw]; dsimp only
      by_cases hjk : j.val < k
      · rw [if_pos ⟨j, hjk, rfl⟩]; exact taken_lt_mark.trans (hm _)
      · rw [if_neg]
        · refine start_lt hσ h0 hz hz0 hap ⟨k, hkN⟩ j (by simp; omega) ?_
          have : j.val ≠ k := fun h => hj (Fin.ext h)
          exact Fin.lt_def.mpr (by simp; omega)
        · rintro ⟨i, hi, he⟩
          rw [hσ.inj he] at hi; exact hjk hi
    have htop : top w = w (σ ⟨k, hkN⟩) := top_eq _ fun n => by
      obtain ⟨j, rfl⟩ := hσ.surj n
      by_cases hj : j = ⟨k, hkN⟩
      · rw [hj]
      · exact (hlt j hj).le
    funext n
    obtain ⟨j, rfl⟩ := hσ.surj n
    change ifEq (w (σ j)) (top w) taken (w (σ j)) = _
    unfold ifEq
    rw [htop]
    by_cases hj : j = ⟨k, hkN⟩
    · subst hj
      rw [if_pos rfl, if_pos ⟨⟨k, hkN⟩, Nat.lt_succ_self k, rfl⟩]
    · rw [if_neg (hlt j hj).ne]
      have hjv : j.val ≠ k := fun h => hj (Fin.ext h)
      rw [hw]; dsimp only
      by_cases hjk : j.val < k
      · rw [if_pos ⟨j, hjk, rfl⟩, if_pos ⟨j, by omega, rfl⟩]
      · rw [if_neg, if_neg]
        · rintro ⟨i, hi, he⟩
          rw [hσ.inj he] at hi; omega
        · rintro ⟨i, hi, he⟩
          rw [hσ.inj he] at hi; omega

/-- After eight rounds a place is below the threshold exactly if it is one of the eight best. -/
theorem strikes_lt (hσ : Ranked m σ) (h0 : ∀ n, 0 ≤ m n) (hz : ∀ i j, i < j → z j < z i) (hz0 : ∀ n, z n < 0)
    (hzm : ∀ n, mark < z n)
    (hap : ∀ i j : Fin N, i.val < 8 → j.val = i.val + 1 → m (σ j) < m (σ i) ∨ m (σ j) ≤ 0) (hN : 8 ≤ N) (n : Fin N) :
    strike^[8] (start m z) n < mark ↔ ∃ i : Fin N, i.val < 8 ∧ σ i = n := by
  rw [strikes hσ h0 hz hz0 hzm hap hN 8 le_rfl]
  dsimp only
  by_cases h : ∃ i : Fin N, i.val < 8 ∧ σ i = n
  · rw [if_pos h]; exact iff_of_true taken_lt_mark h
  · rw [if_neg h]
    refine iff_of_false (not_lt.mpr ?_) h
    unfold start ifLt; split_ifs with h
    · exact (((hzm n).trans (hz0 n)).trans h).le
    · exact (hzm n).le

end Top

/-! ## The target an anchor is assigned to -/

section Assign
variable {G : Nat} {m gf : Fin (G + 1) → EReal} {c : Fin (G + 1) → Prop} {a : Fin (G + 1)}

open Classical in
/-- A candidate's score, otherwise the filler. -/
def filled (c : Fin (G + 1) → Prop) (m gf : Fin (G + 1) → EReal) : Fin (G + 1) → EReal := fun g => if c g then m g else gf g

/-- `a` is the first place at which `f` is largest. -/
def First (f : Fin (G + 1) → EReal) (a : Fin (G + 1)) : Prop := ∀ g, f g < f a ∨ (f g = f a ∧ a ≤ g)

variable (h0 : ∀ g, 0 ≤ m g) (hgf : ∀ g, g ≠ 0 → gf g < gf 0) (hgf0 : gf 0 < 0)
  (ha : First (filled c m fun _ => filler) a)
  (hone : ∀ g, filled c m (fun _ => filler) g < filled c m (fun _ => filler) a ∨ g = a ∨ ¬ c g)

include h0 ha in
/-- An anchor that is a candidate of some target is one of the target it is assigned to. -/
theorem cand_first (hc : ∃ g, c g) : c a := by
  obtain ⟨g, hg⟩ := hc
  by_contra hna
  have hfa : filled c m (fun _ => filler) a = filler := if_neg hna
  have hfg : filled c m (fun _ => filler) g = m g := if_pos hg
  rcases ha g with h | ⟨h, -⟩
  · rw [hfa, hfg] at h; exact absurd (h.trans filler_neg) (not_lt.mpr (h0 g))
  · rw [hfa, hfg] at h; exact absurd (h ▸ filler_neg) (not_lt.mpr (h0 g))

include ha in
/-- An anchor that is a candidate of none is assigned to the first target. -/
theorem first_zero (hc : ¬ ∃ g, c g) : a = 0 := by
  have hf : ∀ g, filled c m (fun _ => filler) g = filler := fun g => if_neg fun h => hc ⟨g, h⟩
  rcases ha 0 with h | ⟨-, h⟩
  · rw [hf, hf] at h; exact absurd h (lt_irrefl _)
  · exact le_antisymm h (Fin.zero_le _)

include h0 hgf hgf0 ha hone in
/-- With the kernel's own fillers, the one largest place is the assigned target. -/
theorem filled_lt (g : Fin (G + 1)) (hg : g ≠ a) : filled c m gf g < filled c m gf a := by
  have hg0 : ∀ g, gf g < 0 := fun g => by
    by_cases h : g = 0
    · rw [h]; exact hgf0
    · exact (hgf g h).trans hgf0
  by_cases hc : ∃ g, c g
  · have hca := cand_first h0 ha hc
    have hfa : filled c m gf a = m a := if_pos hca
    rw [hfa]
    by_cases hcg : c g
    · rcases hone g with h | h | h
      · rwa [show filled c m (fun _ => filler) a = m a from if_pos hca,
          show filled c m (fun _ => filler) g = m g from if_pos hcg,
          ← show filled c m gf g = m g from if_pos hcg] at h
      · exact absurd h hg
      · exact absurd hcg h
    · rw [show filled c m gf g = gf g from if_neg hcg]
      exact lt_of_lt_of_le (hg0 g) (h0 a)
  · have ha0 := first_zero ha hc
    have hf : ∀ g, filled c m gf g = gf g := fun g => if_neg fun h => hc ⟨g, h⟩
    rw [hf, hf, ha0]
    exact hgf g (ha0 ▸ hg)

include h0 hgf hgf0 ha hone in
/-- The largest filled metric is the chosen target's. -/
theorem filled_top : top (filled c m gf) = filled c m gf a :=
  top_eq a fun g => by
    by_cases h : g = a
    · rw [h]
    · exact (filled_lt h0 hgf hgf0 ha hone g h).le

include h0 hgf hgf0 ha hone in
/-- A filled metric is the largest exactly at the chosen target. -/
theorem filled_eq_top (g : Fin (G + 1)) : filled c m gf g = top (filled c m gf) ↔ g = a := by
  rw [filled_top h0 hgf hgf0 ha hone]
  refine ⟨fun h => ?_, fun h => by rw [h]⟩
  by_contra hg
  exact (filled_lt h0 hgf hgf0 ha hone g hg).ne h

include h0 hgf hgf0 ha hone in
/-- The largest filled metric is non-negative exactly when there is a candidate. -/
theorem filled_top_nonneg : 0 ≤ top (filled c m gf) ↔ ∃ g, c g := by
  rw [filled_top h0 hgf hgf0 ha hone]
  by_cases hc : ∃ g, c g
  · rw [show filled c m gf a = m a from if_pos (cand_first h0 ha hc)]
    exact iff_of_true (h0 a) hc
  · rw [show filled c m gf a = gf a from if_neg fun h => hc ⟨a, h⟩, first_zero ha hc]
    exact iff_of_false (not_le.mpr hgf0) hc

include h0 hgf hgf0 ha hone in
/-- With a candidate, the largest filled metric is the chosen target's metric. -/
theorem filled_top_pos (hc : ∃ g, c g) : top (filled c m gf) = m a := by
  rw [filled_top h0 hgf hgf0 ha hone]
  exact if_pos (cand_first h0 ha hc)

end Assign

/-! ## The classification sums -/

/-- A probability clipped from below by `eps` and from above by one. -/
def clip (x : EReal) : EReal := min 1 (max eps x)

/-- The loss of a class the anchor is not positive for. -/
def miss (p : EReal) : EReal := -Ideal.log (1 - p) * p * p

/-- A clipped score below one gives a real number. -/
theorem miss_real {x : EReal} (h0 : 0 ≤ x) (h1 : x < 1) : ∃ r : ℝ, miss (clip x) = (r : EReal) := by
  have hp : clip x = max eps x := min_eq_right (max_le eps_lt_one.le h1.le)
  have hlt : clip x < 1 := by rw [hp]; exact max_lt eps_lt_one h1
  have hge : 0 ≤ clip x := by rw [hp]; exact h0.trans (le_max_right _ _)
  generalize clip x = y at hlt hge
  induction y with
  | bot => simp at hge
  | top => simp at hlt
  | coe y =>
    have hy : y < 1 := by exact_mod_cast hlt
    refine ⟨-Real.log (1 - y) * y * y, ?_⟩
    have hl : Ideal.log (1 - (y : EReal)) = (Real.log (1 - y) : EReal) := by
      rw [show (1 : EReal) - (y : EReal) = ((1 - y : ℝ) : EReal) by norm_cast]
      rw [Ideal.log_coe, if_neg (by linarith)]
    rw [miss, hl]; norm_cast

/-- Replacing one real term of a sum is adding the difference. -/
theorem sum_replace {C : Nat} (f : Fin C → EReal) (L : Fin C) (v : EReal) (hL : ∃ r : ℝ, f L = (r : EReal)) :
    (∑ c, if c = L then v else f c) = (∑ c, f c) + (v - f L) := by
  obtain ⟨r, hr⟩ := hL
  rw [← Finset.add_sum_erase _ _ (Finset.mem_univ L), ← Finset.add_sum_erase _ f (Finset.mem_univ L), if_pos rfl,
    Finset.sum_congr rfl fun c hc => if_neg (Finset.ne_of_mem_erase hc), hr]
  have h : (r : EReal) + (v - r) = v := by
    induction v with
    | bot => simp
    | top => simp
    | coe v => norm_cast; ring
  rw [add_comm (r : EReal), add_assoc, h, add_comm]

/-! ## One image -/

/-- A fold of maxima from minus infinity is the largest value. -/
theorem max_fold {N : Nat} (f : Fin N → EReal) :
    Finset.univ.fold max (Ideal.ofBits .f32 4286578688#32) f = top f := by
  rw [top]; rw [show (4286578688#32 : BitVec 32) = 0xFF800000#32 from rfl, ofBits_negInf]

/-- Zero less a value is its negative. -/
theorem zero_sub' (x : EReal) : 0 - x = -x := by rw [sub_eq_add_neg, zero_add]

/-- A clipped score is not negative. -/
theorem clip_nonneg (x : EReal) : 0 ≤ clip x := le_min zero_le_one (le_max_of_le_left eps_pos.le)

/-- One image: the anchors' class scores and boxes, the targets' boxes and labels. -/
structure Image where
  /-- the score of an anchor for a class -/
  cs : Fin 5000 → Fin 80 → EReal
  /-- an anchor's box -/
  bp : Fin 5000 → Fin 4 → EReal
  /-- a target's box -/
  gb : Fin 60 → Fin 4 → EReal
  /-- a target's label -/
  lab : Fin 60 → Fin 80

namespace Image

variable (I : Image) (σ : Fin 60 → Fin 5000 → Fin 5000) (a : Fin 5000 → Fin 60)

/-- How well an anchor fits a target: its score for the target's label times the sixth power of their overlap. -/
def metric (n : Fin 5000) (g : Fin 60) : EReal := I.cs n (I.lab g) * sixth (iou (I.bp n) (I.gb g))

/-- The anchor is one of the target's eight best. -/
def cand (σ : Fin 60 → Fin 5000 → Fin 5000) (n : Fin 5000) (g : Fin 60) : Prop := ∃ i : Fin 5000, i.val < 8 ∧ σ g i = n

/-- The anchor is a candidate of some target. -/
def pos (σ : Fin 60 → Fin 5000 → Fin 5000) (n : Fin 5000) : Prop := ∃ g, cand σ n g

/-- The rankings and the assignment an image has, and the ties its inputs leave out. -/
structure Chosen : Prop where
  score_nonneg : ∀ n c, 0 ≤ I.cs n c
  score_lt_one : ∀ n c, I.cs n c < 1
  ranked : ∀ g, Ranked (fun n => I.metric n g) (σ g)
  apart : ∀ g, ∀ i j : Fin 5000, i.val < 8 → j.val = i.val + 1 →
    I.metric (σ g j) g < I.metric (σ g i) g ∨ I.metric (σ g j) g ≤ 0
  first : ∀ n, First (G := 59) (filled (cand σ n) (I.metric n) fun _ => filler) (a n)
  one : ∀ n g, filled (G := 59) (cand σ n) (I.metric n) (fun _ => filler) g
    < filled (G := 59) (cand σ n) (I.metric n) (fun _ => filler) (a n) ∨ g = a n ∨ ¬ cand σ n g

open Classical

/-- The largest score among the anchors assigned to a target. -/
def best (g : Fin 60) : EReal := top fun n => if pos σ n ∧ a n = g then I.metric n g else 0
/-- The largest overlap among the anchors assigned to a target. -/
def bestIou (g : Fin 60) : EReal := top fun n => if pos σ n ∧ a n = g then iou (I.bp n) (I.gb g) else 0
/-- An anchor's normalised score, zero if it is not assigned. -/
def norm (n : Fin 5000) : EReal :=
  if pos σ n then Ideal.div (I.metric n (a n)) (I.best σ a (a n) + tiny) * I.bestIou σ a (a n) else 0

/-- The magnitude of a difference. -/
def dist (s p : EReal) : EReal := max (s - p) (-(s - p))

/-- The loss of the class an anchor is positive for. -/
def hit (s p : EReal) : EReal := -(s * Ideal.log p + (1 - s) * Ideal.log (1 - p)) * (dist s p * dist s p)

/-- The classification loss. -/
def lossCls : EReal := ∑ n, ∑ c, if pos σ n ∧ c = I.lab (a n)
  then hit (I.norm σ a n) (clip (I.cs n (I.lab (a n)))) else miss (clip (I.cs n c))
/-- The box loss. -/
def lossBox : EReal := (∑ n, (1 - giou (I.bp n) (I.gb (a n))) * I.norm σ a n) * Ideal.ofBits .f32 0x40000000#32
/-- The sum of the normalised scores. -/
def weight : EReal := ∑ n, I.norm σ a n

/-- A magnitude is not negative. -/
theorem dist_nonneg (s p : EReal) : 0 ≤ dist s p := by
  rcases le_total 0 (s - p) with h | h
  · exact le_max_of_le_left h
  · exact le_max_of_le_right (by rw [← EReal.neg_le_neg_iff, neg_neg, neg_zero]; exact h)

variable {I σ a}

/-- A metric of non-negative scores is not negative. -/
theorem metric_nonneg (h : ∀ n c, 0 ≤ I.cs n c) (n : Fin 5000) (g : Fin 60) : 0 ≤ I.metric n g :=
  mul_nonneg (h _ _) (sixth_nonneg (iou_nonneg _ _))

/-- The classification loss as the misses' sum and each positive anchor's correction. -/
theorem lossCls_eq (h0 : ∀ n c, 0 ≤ I.cs n c) (h1 : ∀ n c, I.cs n c < 1) : I.lossCls σ a =
    (∑ c, ∑ n, miss (clip (I.cs n c))) + ∑ n, if pos σ n
      then hit (I.norm σ a n) (clip (I.cs n (I.lab (a n)))) - miss (clip (I.cs n (I.lab (a n)))) else 0 := by
  rw [Finset.sum_comm, ← Finset.sum_add_distrib, lossCls]
  refine Finset.sum_congr rfl fun n _ => ?_
  by_cases hp : pos σ n
  · simp only [hp, true_and, if_true]
    exact sum_replace (fun c => miss (clip (I.cs n c))) _ _ (miss_real (h0 _ _) (h1 _ _))
  · simp only [hp, false_and, if_false, add_zero]

end Image

end Cert.Loss
end
-- ==== Proof.Body.lean ====
/- The kernel body's pure values read at an index, over the ideal numbers, and composed: at one grid point the three
   rows it adds are the image's classification loss, box loss and weight. -/
module

public import proofs.«01_k».proof.Proof.Gen.KernelIdeal.Skeleton
public import proofs.«01_k».proof.Proof.Spec
public import Idealize.ShloMosaic.Lib.Pointwise

@[expose] public section

set_option maxRecDepth 16384

noncomputable section

namespace Cert.Body

open Idealize.ShloMosaic Cert.KernelIdeal Cert.KernelIdeal.Gen Cert.Loss
open Classical

/-! ## Bits of a proposition -/

/-- A choice on a proposition's bit. -/
theorem select_ofBool {α : Type} (p : Prop) [Decidable p] (x y : α) :
    Scalar.select (BitVec.ofBool (decide p)) x y = if p then x else y := by
  by_cases h : p <;> simp [Scalar.select, h]

/-- A choice on a strict comparison, whatever decides it. -/
theorem ite_lt (x y a b : EReal) (i : Decidable (x < y)) : @ite EReal (x < y) i a b = ifLt x y a b := by
  unfold ifLt; congr

/-- A choice on an equality, whatever decides it. -/
theorem ite_eq (x y a b : EReal) (i : Decidable (x = y)) : @ite EReal (x = y) i a b = ifEq x y a b := by
  unfold ifEq; congr

/-- A proposition's bit, widened and converted, is one or zero. -/
theorem ofBool_float (p : Prop) [Decidable p] :
    (FloatOps.sitofp .f32 (BitVec.setWidth 32 (BitVec.ofBool (decide p))) : Ideal .f32) = if p then (1 : EReal) else 0 := by
  by_cases h : p <;> simp [h, FloatOps.sitofp]

/-- An equality's bit, named by a proposition it is equivalent to. -/
theorem bit_eq {x y : EReal} {p : Prop} [Decidable p] (h : x = y ↔ p) :
    Ideal.cmp .oeq x y = BitVec.ofBool (decide p) := by
  by_cases hp : p
  · simp [Ideal.cmp, hp, h.mpr hp]
  · simp [Ideal.cmp, hp, mt h.mp hp]

/-- A comparison's bit, named by a proposition it is equivalent to. -/
theorem bit_le {x y : EReal} {p : Prop} [Decidable p] (h : y ≤ x ↔ p) :
    Ideal.cmp .oge x y = BitVec.ofBool (decide p) := by
  by_cases hp : p
  · simp [Ideal.cmp, hp, h.mpr hp]
  · simp [Ideal.cmp, hp, mt h.mp hp]

/-! ## The payloads at an index -/

variable (v0 : Vec Ideal S1x80x5000 .f32) (v2 : Vec Ideal S1x4x5000 .f32) (v4 : Vec Ideal S1x60x4 .f32)
  (v6 : Vec Ideal S1x60x1 .i32) (v60 : Vec Ideal S1x1x5000 .f32) (v115 : Vec Ideal S1x60x1 .f32)

/-- Anchor `n`'s box. -/
def boxP (n : Fin 5000) : Fin 4 → EReal := fun j => v2 (ix3 0 j n)
/-- Target `g`'s box. -/
def boxG (g : Fin 60) : Fin 4 → EReal := fun j => v4 (ix3 0 g j)

/-- The body's intersection of an anchor and a target. -/
theorem inter_at (g : Fin 60) (n : Fin 5000) : k0_pay17 v2 v4 (ix2 g n) = inter (boxP v2 n) (boxG v4 g) := by
  pointwise [k0_pay17, k0_pay5,k0_pay6, k0_pay8, k0_pay9, k0_pay10, k0_pay11, k0_pay13, k0_pay14, k0_pay15, k0_pay16]
  rfl

/-- The body's union of an anchor and a target. -/
theorem union_at (g : Fin 60) (n : Fin 5000) : k0_pay18 v2 v4 (ix2 g n) = union (boxP v2 n) (boxG v4 g) := by
  pointwise [k0_pay18, inter_at, k0_pay12, k0_pay5,k0_pay6, k0_pay8, k0_pay9, k0_pay10, k0_pay11, k0_pay13, k0_pay14, k0_pay15, k0_pay16]
  rfl

/-- The body's overlap of an anchor and a target. -/
theorem iou_at (g : Fin 60) (n : Fin 5000) :
    k0_pay19 (k0_pay17 v2 v4) (k0_pay18 v2 v4) (ix2 g n) = iou (boxP v2 n) (boxG v4 g) := by
  pointwise [k0_pay19, inter_at, union_at]
  rfl

/-- The one-hot product picks the score of the target's label. -/
theorem score_at (lab : Fin 60 → Fin 80) (hl : ∀ g, v6 (ix3 0 g 0) = BitVec.ofNat 32 (lab g).val) (g : Fin 60) (n : Fin 5000) :
    k0_pay20 (k0_pay4 v0) (k0_pay7 v6) (ix2 g n) = v0 (ix3 0 (lab g) n) := by
  pointwise [k0_pay20, k0_pay4, k0_pay7, hl]
  rw [Finset.sum_eq_single (lab g)]
  · simp [IntOp.cmpi, FloatOps.sitofp]
  · intro c _ hc
    have h : ¬ BitVec.ofNat 32 (lab g).val = BitVec.ofNat 32 c.val := fun h => hc (by
      have := congrArg BitVec.toNat h
      simp only [BitVec.toNat_ofNat] at this
      have h1 := c.isLt; have h2 := (lab g).isLt
      exact Fin.ext (by omega))
    simp [IntOp.cmpi, FloatOps.sitofp, beq_eq_false_iff_ne.mpr h]
  · exact fun h => absurd (Finset.mem_univ _) h

/-- The image the blocks hold. -/
def image (lab : Fin 60 → Fin 80) : Image where
  cs n c := v0 (ix3 0 c n)
  bp n := boxP v2 n
  gb g := boxG v4 g
  lab := lab

/-- The body's metric of an anchor and a target. -/
theorem metric_at (lab : Fin 60 → Fin 80) (hl : ∀ g, v6 (ix3 0 g 0) = BitVec.ofNat 32 (lab g).val) (g : Fin 60) (n : Fin 5000) :
    k0_pay21 (k0_pay4 v0) (k0_pay7 v6) (k0_pay17 v2 v4) (k0_pay18 v2 v4) (ix2 g n) = (image v0 v2 v4 lab).metric n g := by
  pointwise [k0_pay21, iou_at, score_at v0 v6 lab hl]
  rfl

/-- The work array after four rounds. -/
theorem work5_at (v1 : FVec Ideal S80x5000 .f32) (v7 : IVec S60x1 32) (v40 v44 : FVec Ideal S60x5000 .f32)
    (m : Fin 5000 → Fin 60 → EReal) (hm : ∀ g n, k0_pay21 v1 v7 v40 v44 (ix2 g n) = m n g) (g : Fin 60) (n : Fin 5000) :
    k0_pay22 v1 v7 v40 v44 v60 (ix2 g n) = strike^[4] (start (fun n => m n g) fun n => v60 (ix3 0 0 n)) n := by
  pointwise [k0_pay22, hm, ite_lt, ite_eq, max_fold]
  rfl

/-- The work array after eight rounds, thresholded: the candidates' scores and the fillers elsewhere. -/
theorem cand_at (v57 v88 : FVec Ideal S60x5000 .f32) (v89 : FVec Ideal S60 .f32)
    (h89 : ∀ g, v89 (ix1 g) = top fun n => v88 (ix2 g n)) (g : Fin 60) (n : Fin 5000) :
    k0_pay24 v57 v88 v89 v115 (ix2 g n) =
      ifLt (strike^[4] (fun n => v88 (ix2 g n)) n) mark (v57 (ix2 g n)) (v115 (ix3 0 g 0)) := by
  pointwise [k0_pay24, h89, ite_lt, ite_eq, max_fold]
  rfl

/-! ## The composed values of one grid point -/

/-- The metrics, targets by anchors. -/
def w57 : FVec Ideal S60x5000 .f32 := k0_pay21 (k0_pay4 v0) (k0_pay7 v6) (k0_pay17 v2 v4) (k0_pay18 v2 v4)
/-- The working metrics after four of the strikes. -/
def w88 : FVec Ideal S60x5000 .f32 := k0_pay22 (k0_pay4 v0) (k0_pay7 v6) (k0_pay17 v2 v4) (k0_pay18 v2 v4) v60
/-- The largest of the working metrics of each target, after four strikes. -/
def w89 : FVec Ideal S60 .f32 := k0_pay23 (k0_pay4 v0) (k0_pay7 v6) (k0_pay17 v2 v4) (k0_pay18 v2 v4) v60
/-- Which anchors are candidates of some target. -/
def w123 : IVec S1x5000 1 := k0_pay26 (w57 v0 v2 v4 v6) (w88 v0 v2 v4 v6 v60) (w89 v0 v2 v4 v6 v60) v115
/-- Which target each anchor is assigned to. -/
def w125 : IVec S60x5000 1 := k0_pay27 (w57 v0 v2 v4 v6) (w88 v0 v2 v4 v6 v60) (w89 v0 v2 v4 v6 v60) v115
/-- The assignment as ones and zeros. -/
def w127 : FVec Ideal S60x5000 .f32 := k0_pay28 (w57 v0 v2 v4 v6) (w88 v0 v2 v4 v6 v60) (w89 v0 v2 v4 v6 v60) v115
/-- Each anchor's metric with its target, zero if it has none. -/
def w129 : FVec Ideal S1x5000 .f32 := k0_pay29 (w57 v0 v2 v4 v6) (w88 v0 v2 v4 v6 v60) (w89 v0 v2 v4 v6 v60) v115
/-- Each anchor's overlap with the target it selects. -/
def w133 : FVec Ideal S1x5000 .f32 := k0_pay30 (k0_pay19 (k0_pay17 v2 v4) (k0_pay18 v2 v4)) (w57 v0 v2 v4 v6)
  (w88 v0 v2 v4 v6 v60) (w89 v0 v2 v4 v6 v60) v115
/-- The product that reads the targets' boxes and maxima at each anchor's target. -/
def w149 : FVec Ideal S6x5000 .f32 := k0_pay31 (k0_pay13 v4) (k0_pay14 v4) (k0_pay15 v4) (k0_pay16 v4)
  (w123 v0 v2 v4 v6 v60 v115) (w125 v0 v2 v4 v6 v60 v115) (w127 v0 v2 v4 v6 v60 v115) (w129 v0 v2 v4 v6 v60 v115)
  (w133 v0 v2 v4 v6 v60 v115)
/-- The normalised metrics. -/
def w157 : FVec Ideal S1x5000 .f32 := k0_pay32 (k0_pay13 v4) (k0_pay14 v4) (k0_pay15 v4) (k0_pay16 v4)
  (w123 v0 v2 v4 v6 v60 v115) (w125 v0 v2 v4 v6 v60 v115) (w127 v0 v2 v4 v6 v60 v115) (w129 v0 v2 v4 v6 v60 v115)
  (w133 v0 v2 v4 v6 v60 v115)
/-- The score of each anchor for the class of the target it selects. -/
def w176 : FVec Ideal S1x5000 .f32 := k0_pay34 (k0_pay20 (k0_pay4 v0) (k0_pay7 v6)) (w125 v0 v2 v4 v6 v60 v115)
/-- The classification loss of the image. -/
def w210 : Ideal .f32 := k0_pay35 (w123 v0 v2 v4 v6 v60 v115) (w157 v0 v2 v4 v6 v60 v115) (k0_pay33 (k0_pay4 v0))
  (w176 v0 v2 v4 v6 v60 v115) (Scalar.ofBits .f32 0x2B8CBCCC#32) (Scalar.ofBits .f32 0x3F800000#32)
/-- The three rows a grid point adds at its own lane. -/
def rows : FVec Ideal S3x128 .f32 := k0_pay42 (k0_pay12 v2) (w157 v0 v2 v4 v6 v60 v115) (w210 v0 v2 v4 v6 v60 v115)
  (k0_pay36 (w149 v0 v2 v4 v6 v60 v115)) (k0_pay37 (k0_pay5 v2) (w149 v0 v2 v4 v6 v60 v115))
  (k0_pay38 (k0_pay5 v2) (w149 v0 v2 v4 v6 v60 v115)) (k0_pay39 (k0_pay5 v2) (w149 v0 v2 v4 v6 v60 v115))
  (k0_pay40 (w149 v0 v2 v4 v6 v60 v115))

/-- What the blocks of one grid point hold: labels in range, keys that fall strictly below zero above the threshold,
    fillers below the first one, and an image whose ties are left out. -/
structure Blocks (lab : Fin 60 → Fin 80) (σ : Fin 60 → Fin 5000 → Fin 5000) (a : Fin 5000 → Fin 60) : Prop where
  label : ∀ g, v6 (ix3 0 g 0) = BitVec.ofNat 32 (lab g).val
  key_lt : ∀ i j : Fin 5000, i < j → v60 (ix3 0 0 j) < v60 (ix3 0 0 i)
  key_neg : ∀ n : Fin 5000, v60 (ix3 0 0 n) < (0 : EReal)
  key_mark : ∀ n : Fin 5000, mark < v60 (ix3 0 0 n)
  fill_lt : ∀ g : Fin 60, g ≠ 0 → v115 (ix3 0 g 0) < v115 (ix3 0 0 0)
  fill_neg : v115 (ix3 0 0 0) < (0 : EReal)
  chosen : (image v0 v2 v4 lab).Chosen σ a

variable {v0 v2 v4 v6 v60 v115} {lab : Fin 60 → Fin 80} {σ : Fin 60 → Fin 5000 → Fin 5000} {a : Fin 5000 → Fin 60}
variable (B : Blocks v0 v2 v4 v6 v60 v115 lab σ a)

include B in
/-- The candidates' scores, the fillers elsewhere. -/
theorem filled_at (g : Fin 60) (n : Fin 5000) :
    k0_pay24 (w57 v0 v2 v4 v6) (w88 v0 v2 v4 v6 v60) (w89 v0 v2 v4 v6 v60) v115 (ix2 g n)
      = filled (G := 59) (Image.cand σ n) ((image v0 v2 v4 lab).metric n) (fun g => v115 (ix3 0 g 0)) g := by
  rw [cand_at v115 _ _ _ (fun g => by unfold w89 w88; pointwise [k0_pay23, max_fold])]
  have h : (fun n => w88 v0 v2 v4 v6 v60 (ix2 g n)) =
      strike^[4] (start (fun n => (image v0 v2 v4 lab).metric n g) fun n => v60 (ix3 0 0 n)) :=
    funext fun n => work5_at v60 _ _ _ _ _ (metric_at v0 v2 v4 v6 lab B.label) g n
  rw [h, ← Function.iterate_add_apply, show w57 v0 v2 v4 v6 (ix2 g n) = _ from metric_at v0 v2 v4 v6 lab B.label g n]
  have hk := strikes_lt (B.chosen.ranked g) (fun n => Image.metric_nonneg B.chosen.score_nonneg n g) B.key_lt B.key_neg
    B.key_mark (B.chosen.apart g) (by norm_num) n
  unfold ifLt filled
  exact if_congr hk rfl rfl

include B in
/-- The largest filled metric of an anchor is the top of its candidates' metrics. -/
theorem best_at (n : Fin 5000) :
    k0_pay25 (w57 v0 v2 v4 v6) (w88 v0 v2 v4 v6 v60) (w89 v0 v2 v4 v6 v60) v115 (ix2 0 n)
      = top (filled (G := 59) (Image.cand σ n) ((image v0 v2 v4 lab).metric n) (fun g => v115 (ix3 0 g 0))) := by
  pointwise [k0_pay25, filled_at B, max_fold]

include B in
/-- An anchor is positive exactly when it is some target's candidate. -/
theorem pos_at (n : Fin 5000) : w123 v0 v2 v4 v6 v60 v115 (ix2 0 n) = BitVec.ofBool (decide (Image.pos σ n)) := by
  unfold w123
  pointwise [k0_pay26, best_at B]
  exact bit_le (filled_top_nonneg (Image.metric_nonneg B.chosen.score_nonneg n) B.fill_lt B.fill_neg (B.chosen.first n) (B.chosen.one n))

include B in
/-- An anchor selects exactly the target it is assigned. -/
theorem sel_at (g : Fin 60) (n : Fin 5000) : w125 v0 v2 v4 v6 v60 v115 (ix2 g n) = BitVec.ofBool (decide (g = a n)) := by
  unfold w125
  pointwise [k0_pay27, best_at B, filled_at B]
  exact bit_eq (filled_eq_top (Image.metric_nonneg B.chosen.score_nonneg n) B.fill_lt B.fill_neg (B.chosen.first n) (B.chosen.one n) g)

include B in
/-- The selection as a number is one at the assigned target and zero elsewhere. -/
theorem self_at (g : Fin 60) (n : Fin 5000) : w127 v0 v2 v4 v6 v60 v115 (ix2 g n) = if g = a n then (1 : EReal) else 0 := by
  unfold w127
  pointwise [k0_pay28]
  rw [← ofBool_float (g = a n), ← sel_at B g n]; rfl

include B in
/-- A positive anchor's metric with its target, zero for the others. -/
theorem assigned_at (n : Fin 5000) : w129 v0 v2 v4 v6 v60 v115 (ix2 0 n) =
    if Image.pos σ n then (image v0 v2 v4 lab).metric n (a n) else 0 := by
  have h := pos_at B n
  unfold w129
  pointwise [k0_pay29, best_at B]
  change Scalar.select (w123 v0 v2 v4 v6 v60 v115 (ix2 0 n)) _ _ = _
  rw [h, select_ofBool]
  by_cases hp : Image.pos σ n
  · rw [if_pos hp, if_pos hp]
    exact filled_top_pos (Image.metric_nonneg B.chosen.score_nonneg n) B.fill_lt B.fill_neg (B.chosen.first n) (B.chosen.one n) hp
  · rw [if_neg hp, if_neg hp]

include B in
/-- The selected overlap is the overlap with the assigned target. -/
theorem overlap_at (n : Fin 5000) : w133 v0 v2 v4 v6 v60 v115 (ix2 0 n) = iou (boxP v2 n) (boxG v4 (a n)) := by
  have h := fun g => sel_at B g n
  unfold w133
  pointwise [k0_pay30, iou_at]
  change ∑ g, Scalar.select (w125 v0 v2 v4 v6 v60 v115 (ix2 g n)) (iou (boxP v2 n) (boxG v4 g)) 0 = _
  simp only [h, select_ofBool, Finset.sum_ite_eq', Finset.mem_univ, if_true]

include B in
/-- The selected score is the anchor's score for its target's class. -/
theorem score_sel_at (n : Fin 5000) : w176 v0 v2 v4 v6 v60 v115 (ix2 0 n) = (image v0 v2 v4 lab).cs n (lab (a n)) := by
  have h := fun g => sel_at B g n
  unfold w176
  pointwise [k0_pay34, score_at v0 v6 lab B.label]
  simp only [h, select_ofBool, Finset.sum_ite_eq', Finset.mem_univ, if_true]
  rfl

end Cert.Body
end
-- ==== Proof.Rows.lean ====
/- The rows of one grid point, from its values at an index. -/
module

public import proofs.«01_k».proof.Proof.Body

@[expose] public section

set_option maxRecDepth 16384

noncomputable section

namespace Cert.Body

open Idealize.ShloMosaic Cert.KernelIdeal Cert.KernelIdeal.Gen Cert.Loss
open Classical

variable {v0 : Vec Ideal S1x80x5000 .f32} {v2 : Vec Ideal S1x4x5000 .f32} {v4 : Vec Ideal S1x60x4 .f32}
  {v6 : Vec Ideal S1x60x1 .i32} {v60 : Vec Ideal S1x1x5000 .f32} {v115 : Vec Ideal S1x60x1 .f32}
  {lab : Fin 60 → Fin 80} {σ : Fin 60 → Fin 5000 → Fin 5000} {a : Fin 5000 → Fin 60}
  (B : Blocks v0 v2 v4 v6 v60 v115 lab σ a)

/-- The product with a one-hot selection is the row of the selected target. -/
theorem pick_at (v15 v16 v17 v18 : FVec Ideal S60x1 .f32) (v123 : IVec S1x5000 1) (v125 : IVec S60x5000 1)
    (v127 : FVec Ideal S60x5000 .f32) (v129 v133 : FVec Ideal S1x5000 .f32) (n : Fin 5000) (b : Fin 60)
    (h : ∀ g, v127 (ix2 g n) = if g = b then (1 : EReal) else 0) :
    (k0_pay31 v15 v16 v17 v18 v123 v125 v127 v129 v133 (ix2 0 n) = v15 (ix2 b 0) ∧
     k0_pay31 v15 v16 v17 v18 v123 v125 v127 v129 v133 (ix2 1 n) = v16 (ix2 b 0) ∧
     k0_pay31 v15 v16 v17 v18 v123 v125 v127 v129 v133 (ix2 2 n) = v17 (ix2 b 0) ∧
     k0_pay31 v15 v16 v17 v18 v123 v125 v127 v129 v133 (ix2 3 n) = v18 (ix2 b 0)) ∧
     k0_pay31 v15 v16 v17 v18 v123 v125 v127 v129 v133 (ix2 4 n)
       = (top fun k => Scalar.select (v125 (ix2 b k)) (v129 (ix2 0 k)) 0) ∧
     k0_pay31 v15 v16 v17 v18 v123 v125 v127 v129 v133 (ix2 5 n)
       = (top fun k => Scalar.select (v125 (ix2 b k)) (Scalar.select (v123 (ix2 0 k)) (v133 (ix2 0 k)) 0) 0) := by
  refine ⟨⟨?_, ?_, ?_, ?_⟩, ?_, ?_⟩ <;>
  · pointwise [k0_pay31, max_fold, h, mul_ite, mul_zero]
    simp only [Finset.sum_ite_eq', Finset.mem_univ, if_true]

include B in
/-- The largest selected metric of a target is the largest among the anchors assigned to it. -/
theorem best_table_at (g : Fin 60) :
    (top fun n => Scalar.select (w125 v0 v2 v4 v6 v60 v115 (ix2 g n)) (w129 v0 v2 v4 v6 v60 v115 (ix2 0 n)) 0)
      = (image v0 v2 v4 lab).best σ a g := by
  refine congrArg top (funext fun n => ?_)
  rw [sel_at B, assigned_at B, select_ofBool]
  by_cases hg : g = a n
  · subst hg; by_cases hp : Image.pos σ n <;> simp [hp]
  · simp [hg, Ne.symm hg]

include B in
/-- The largest selected overlap of a target is the largest among the anchors assigned to it. -/
theorem bestIou_table_at (g : Fin 60) :
    (top fun n => Scalar.select (w125 v0 v2 v4 v6 v60 v115 (ix2 g n))
      (Scalar.select (w123 v0 v2 v4 v6 v60 v115 (ix2 0 n)) (w133 v0 v2 v4 v6 v60 v115 (ix2 0 n)) 0) 0)
      = (image v0 v2 v4 lab).bestIou σ a g := by
  refine congrArg top (funext fun n => ?_)
  rw [sel_at B, pos_at B, overlap_at B, select_ofBool, select_ofBool]
  by_cases hg : g = a n
  · subst hg; by_cases hp : Image.pos σ n <;> simp [hp, image]
  · simp [hg, Ne.symm hg]

include B in
/-- The first four rows of the product are the assigned target's box. -/
theorem box_at (j : Fin 4) (n : Fin 5000) :
    w149 v0 v2 v4 v6 v60 v115 (ix2 (j.castLE (by norm_num)) n) = boxG v4 (a n) j := by
  have h := (pick_at (k0_pay13 v4) (k0_pay14 v4) (k0_pay15 v4) (k0_pay16 v4) (w123 v0 v2 v4 v6 v60 v115)
    (w125 v0 v2 v4 v6 v60 v115) (w127 v0 v2 v4 v6 v60 v115) (w129 v0 v2 v4 v6 v60 v115) (w133 v0 v2 v4 v6 v60 v115) n (a n)
    fun g => self_at B g n).1
  unfold w149
  match j with
  | 0 => exact h.1.trans (by pointwise [k0_pay13, k0_pay6, boxG])
  | 1 => exact h.2.1.trans (by pointwise [k0_pay14, k0_pay6, boxG])
  | 2 => exact h.2.2.1.trans (by pointwise [k0_pay15, k0_pay6, boxG])
  | 3 => exact h.2.2.2.trans (by pointwise [k0_pay16, k0_pay6, boxG])

/-- The normalised score, over any values read before it. -/
theorem norm_of (v15 v16 v17 v18 : FVec Ideal S60x1 .f32) (v123 : IVec S1x5000 1) (v125 : IVec S60x5000 1)
    (v127 : FVec Ideal S60x5000 .f32) (v129 v133 : FVec Ideal S1x5000 .f32) (n : Fin 5000) :
    k0_pay32 v15 v16 v17 v18 v123 v125 v127 v129 v133 (ix2 0 n) = Scalar.select (v123 (ix2 0 n))
      (Ideal.div (v129 (ix2 0 n)) (k0_pay31 v15 v16 v17 v18 v123 v125 v127 v129 v133 (ix2 4 n) + tiny)
        * k0_pay31 v15 v16 v17 v18 v123 v125 v127 v129 v133 (ix2 5 n)) 0 := by
  have e : ∀ w : FVec Ideal S6x5000 .f32, select v123 (mulf (divf v129 (addf (extractStridedSlice S1x5000 ![4, 0] w slices_S6x5000_o4_0_S1x5000)
      (broadcast S1x5000 (Scalar.ofBits .f32 0x33D6BF95#32 : Ideal .f32)))) (extractStridedSlice S1x5000 ![5, 0] w slices_S6x5000_o5_0_S1x5000))
      (broadcast S1x5000 (Scalar.ofBits .f32 0x00000000#32 : Ideal .f32)) (ix2 0 n) = Scalar.select (v123 (ix2 0 n))
      (Ideal.div (v129 (ix2 0 n)) (w (ix2 4 n) + tiny) * w (ix2 5 n)) 0 := by
    intro w
    pointwise
    rfl
  exact e _

include B in
/-- The normalised score of an anchor. -/
theorem norm_at (n : Fin 5000) : w157 v0 v2 v4 v6 v60 v115 (ix2 0 n) = (image v0 v2 v4 lab).norm σ a n := by
  have h := (pick_at (k0_pay13 v4) (k0_pay14 v4) (k0_pay15 v4) (k0_pay16 v4) (w123 v0 v2 v4 v6 v60 v115)
    (w125 v0 v2 v4 v6 v60 v115) (w127 v0 v2 v4 v6 v60 v115) (w129 v0 v2 v4 v6 v60 v115) (w133 v0 v2 v4 v6 v60 v115) n (a n)
    fun g => self_at B g n).2
  rw [best_table_at B, bestIou_table_at B] at h
  unfold w157
  rw [norm_of, h.1, h.2, pos_at B, select_ofBool, assigned_at B]
  unfold Image.norm
  by_cases hq : Image.pos σ n
  · rw [if_pos hq, if_pos hq, if_pos hq]
  · rw [if_neg hq, if_neg hq]

/-- The misses' sum. -/
theorem miss_sum (v1 : FVec Ideal S80x5000 .f32) : k0_pay33 v1 = ∑ c : Fin 80, ∑ n : Fin 5000, miss (clip (v1 (ix2 c n))) := by
  pointwise [k0_pay33, zero_sub', Finset.univ_unique, Finset.sum_singleton]
  rfl

/-- The sum with the positive anchors' corrections, over any values read before it. -/
theorem correction (v123 : IVec S1x5000 1) (v157 : FVec Ideal S1x5000 .f32) (v172 : Ideal .f32) (v176 : FVec Ideal S1x5000 .f32) :
    k0_pay35 v123 v157 v172 v176 (Scalar.ofBits .f32 0x2B8CBCCC#32) (Scalar.ofBits .f32 0x3F800000#32)
      = v172 + ∑ n : Fin 5000, Scalar.select (v123 (ix2 0 n))
          (Image.hit (v157 (ix2 0 n)) (clip (v176 (ix2 0 n))) - miss (clip (v176 (ix2 0 n)))) 0 := by
  pointwise [k0_pay35, zero_sub', Finset.univ_unique, Finset.sum_singleton]
  refine congrArg (v172 + ·) (Finset.sum_congr rfl fun n _ => ?_)
  unfold Image.hit Image.dist
  rw [← mul_assoc]
  rfl

include B in
/-- The classification loss. -/
theorem cls_at : w210 v0 v2 v4 v6 v60 v115 = (image v0 v2 v4 lab).lossCls σ a := by
  rw [Image.lossCls_eq B.chosen.score_nonneg B.chosen.score_lt_one]
  unfold w210
  rw [correction, miss_sum]
  refine congrArg₂ (· + ·) ?_ (Finset.sum_congr rfl fun n _ => ?_)
  · pointwise [k0_pay4]; rfl
  · rw [pos_at B, norm_at B, score_sel_at B, select_ofBool]; rfl

/-- The box loss's term of an anchor, over any values read before it. -/
theorem giou_at (v2 : Vec Ideal S1x4x5000 .f32) (v149 : FVec Ideal S6x5000 .f32) (v157 : FVec Ideal S1x5000 .f32) (v210 : Ideal .f32)
    (q : Fin 5000 → Fin 4 → EReal) (hq : ∀ n (j : Fin 4), v149 (ix2 (j.castLE (by norm_num)) n) = q n j) (j : Fin 3) (l : Fin 128) :
    k0_pay42 (k0_pay12 v2) v157 v210 (k0_pay36 v149) (k0_pay37 (k0_pay5 v2) v149) (k0_pay38 (k0_pay5 v2) v149)
      (k0_pay39 (k0_pay5 v2) v149) (k0_pay40 v149) (ix2 j l)
      = if j = 0 then v210 else if j = 1 then
          (∑ n, (1 - giou (boxP v2 n) (q n)) * v157 (ix2 0 n)) * Ideal.ofBits .f32 0x40000000#32
        else ∑ n : Fin 5000, v157 (ix2 0 n) := by
  have h0 : ∀ n, v149 (ix2 0 n) = q n 0 := fun n => hq n 0
  have h1 : ∀ n, v149 (ix2 1 n) = q n 1 := fun n => hq n 1
  have h2 : ∀ n, v149 (ix2 2 n) = q n 2 := fun n => hq n 2
  have h3 : ∀ n, v149 (ix2 3 n) = q n 3 := fun n => hq n 3
  match j with
  | 0 => pointwise [k0_pay42]
  | 1 =>
    pointwise [k0_pay42, k0_pay12, k0_pay36, k0_pay37, k0_pay38, k0_pay39, k0_pay40, k0_pay5, k0_pay8, k0_pay9, k0_pay10,
      k0_pay11, h0, h1, h2, h3, Finset.univ_unique, Finset.sum_singleton]
    rfl
  | 2 => pointwise [k0_pay42, Finset.univ_unique, Finset.sum_singleton]; rfl

include B in
/-- The three rows of a grid point: its image's classification loss, box loss and weight. -/
theorem rows_at (j : Fin 3) (l : Fin 128) : rows v0 v2 v4 v6 v60 v115 (ix2 j l) =
    if j = 0 then (image v0 v2 v4 lab).lossCls σ a else if j = 1 then (image v0 v2 v4 lab).lossBox σ a
      else (image v0 v2 v4 lab).weight σ a := by
  unfold rows
  rw [giou_at v2 _ _ _ (fun n => boxG v4 (a n)) (fun n j => box_at B j n), cls_at B]
  simp only [norm_at B]
  rfl

end Cert.Body
end
-- ==== Proof.KernelRun.lean ====
/- What the kernel's run leaves in its scratch rows and in its result block. -/
module

public import proofs.«01_k».proof.Proof.Body
public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Value

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ) (ρ : Dev nD → PrngReg)

/-- The rank-2 zero offset. -/
theorem hz2 : (![0, 0] : Fin 2 → Nat) = fun _ => 0 := funext fun a => by fin_cases a <;> rfl
/-- The rank-3 zero offset. -/
theorem hz3 : (![0, 0, 0] : Fin 3 → Nat) = fun _ => 0 := funext fun a => by fin_cases a <;> rfl

section Cases

variable (c : Dev nD) (i : grid0.Coords)
  (a1 : Memref sig .tc .vmem S1x80x5000 .f32) (h1 : a1.IsWhole) (a2 : Memref sig .tc .vmem S1x4x5000 .f32) (h2 : a2.IsWhole)
  (a3 : Memref sig .tc .vmem S1x60x4 .f32) (h3 : a3.IsWhole) (a4 : Memref sig .tc .vmem S1x60x1 .i32) (h4 : a4.IsWhole)
  (a5 : Memref sig .tc .vmem S1x1x5000 .f32) (h5 : a5.IsWhole) (a6 : Memref sig .tc .vmem S1x60x1 .f32) (h6 : a6.IsWhole)
  (a7 : Memref sig .tc .vmem S1x8x128 .f32) (h7 : a7.IsWhole) (a8 : Memref sig .tc .vmem S3x128 .f32) (h8 : a8.IsWhole)
  (x0 : Vec Ideal S1x80x5000 .f32) (x1 : Vec Ideal S1x4x5000 .f32) (x2 : Vec Ideal S1x60x4 .f32)
  (x3 : Vec Ideal S1x60x1 .i32) (x4 : Vec Ideal S1x1x5000 .f32) (x5 : Vec Ideal S1x60x1 .f32)
  (xs : Vec Ideal S3x128 .f32)

/-- One grid point's rows added to what the scratch holds. -/
def step (xs : Vec Ideal S3x128 .f32) : Vec Ideal S3x128 .f32 :=
  k0_pay2 (k0_pay41 (BitVec.ofNat 32 (i 0).val)) (Body.rows x0 x1 x2 x3 x4 x5) xs

/-- A middle point's scratch. -/
theorem scratch_B (hc0 : ¬cond0_0 i) (hc1 : ¬cond0_1 i) :
    sout0_B_0 c i a1 h1 a2 h2 a3 h3 a4 h4 a5 h5 a6 h6 a7 h7 a8 h8 hc0 hc1 x0 x1 x2 x3 x4 x5 xs = step i x0 x1 x2 x3 x4 x5 xs := by
  unfold sout0_B_0
  rw [View.read_writes_eq_canon _ _ _ (scover0_B_0 c i a1 h1 a2 h2 a3 h3 a4 h4 a5 h5 a6 h6 a7 h7 a8 h8 hc0 hc1 x0 x1 x2 x3 x4 x5 xs)]
  unfold kernelRun0_B
  dsimp only
  sl_unfold_words
  rw [View.canon_unit_zero hz2]
  simp only [View.readAt_eq_ld, h1.read_unread, h2.read_unread, h3.read_unread, h4.read_unread, h5.read_unread, h6.read_unread,
    h8.read_unread, View.ld_unit_zero (S := S3x128) hz2, View.ld_unit_zero (S := S1x80x5000) hz3, View.ld_unit_zero (S := S1x4x5000) hz3,
    View.ld_unit_zero (S := S1x60x4) hz3, View.ld_unit_zero (S := S1x60x1) hz3, View.ld_unit_zero (S := S1x1x5000) hz3]
  rfl

/-- The last point's scratch. -/
theorem scratch_C (hc0 : ¬cond0_0 i) (hc1 : cond0_1 i) :
    sout0_C_0 c i a1 h1 a2 h2 a3 h3 a4 h4 a5 h5 a6 h6 a7 h7 a8 h8 hc0 hc1 x0 x1 x2 x3 x4 x5 xs = step i x0 x1 x2 x3 x4 x5 xs := by
  unfold sout0_C_0
  rw [View.read_writes_eq_canon _ _ _ (scover0_C_0 c i a1 h1 a2 h2 a3 h3 a4 h4 a5 h5 a6 h6 a7 h7 a8 h8 hc0 hc1 x0 x1 x2 x3 x4 x5 xs)]
  unfold kernelRun0_C
  dsimp only
  sl_unfold_words
  rw [View.canon_unit_zero hz2]
  simp only [View.readAt_eq_ld, h1.read_unread, h2.read_unread, h3.read_unread, h4.read_unread, h5.read_unread, h6.read_unread,
    h8.read_unread, View.ld_unit_zero (S := S3x128) hz2, View.ld_unit_zero (S := S1x80x5000) hz3, View.ld_unit_zero (S := S1x4x5000) hz3,
    View.ld_unit_zero (S := S1x60x4) hz3, View.ld_unit_zero (S := S1x60x1) hz3, View.ld_unit_zero (S := S1x1x5000) hz3]
  rfl

/-- The first point's scratch: its rows added to zero. -/
theorem scratch_A (hc0 : cond0_0 i) (hc1 : ¬cond0_1 i) :
    sout0_A_0 c i a1 h1 a2 h2 a3 h3 a4 h4 a5 h5 a6 h6 a7 h7 a8 h8 hc0 hc1 x0 x1 x2 x3 x4 x5 = step i x0 x1 x2 x3 x4 x5 (k0_pay1 (F := Ideal)) := by
  unfold sout0_A_0
  rw [View.read_writes_eq_canon _ _ _ (scover0_A_0 c i a1 h1 a2 h2 a3 h3 a4 h4 a5 h5 a6 h6 a7 h7 a8 h8 hc0 hc1 x0 x1 x2 x3 x4 x5)]
  unfold kernelRun0_A
  dsimp only
  sl_unfold_words
  rw [View.canon_cons_unit_zero (S := S3x128) hz2, View.readCov_unit_zero (S := S3x128) _ hz2]
  simp only [View.readAt_eq_ld, h1.read_unread, h2.read_unread, h3.read_unread, h4.read_unread, h5.read_unread, h6.read_unread,
    h8.read_unread, View.ld_unit_zero (S := S3x128) hz2, View.ld_unit_zero (S := S1x80x5000) hz3, View.ld_unit_zero (S := S1x4x5000) hz3,
    View.ld_unit_zero (S := S1x60x4) hz3, View.ld_unit_zero (S := S1x60x1) hz3, View.ld_unit_zero (S := S1x1x5000) hz3]
  rfl

/-- The result block, from the scratch the last point leaves. -/
theorem result_C (hc0 : ¬cond0_0 i) (hc1 : cond0_1 i) :
    out0_C_6 c i a1 h1 a2 h2 a3 h3 a4 h4 a5 h5 a6 h6 a7 h7 a8 h8 hc0 hc1 x0 x1 x2 x3 x4 x5 xs
      = k0_pay3 (iota .tc S3x128 32 [1] iota_S3x128_d1_w32) (step i x0 x1 x2 x3 x4 x5 xs) := by
  unfold out0_C_6
  rw [View.read_writes_eq_canon _ _ _ (cover0_C_6 c i a1 h1 a2 h2 a3 h3 a4 h4 a5 h5 a6 h6 a7 h7 a8 h8 hc0 hc1 x0 x1 x2 x3 x4 x5 xs)]
  unfold kernelRun0_C
  dsimp only
  sl_unfold_words
  rw [View.canon_unit_zero hz3, View.readCov_unit_zero (S := S3x128) _ hz2]
  simp only [View.readAt_eq_ld, h1.read_unread, h2.read_unread, h3.read_unread, h4.read_unread, h5.read_unread, h6.read_unread,
    h8.read_unread, View.ld_unit_zero (S := S3x128) hz2, View.ld_unit_zero (S := S1x80x5000) hz3, View.ld_unit_zero (S := S1x4x5000) hz3,
    View.ld_unit_zero (S := S1x60x4) hz3, View.ld_unit_zero (S := S1x60x1) hz3, View.ld_unit_zero (S := S1x1x5000) hz3]
  rfl

end Cases

/-- A point's three rows, from its blocks. -/
def rowsAt (c : Dev nD) (t : Fin cfg0.N) : Vec Ideal S3x128 .f32 :=
  Body.rows (iblk m c 0 t) (iblk m c 1 t) (iblk m c 2 t) (iblk m c 3 t) (iblk m c 4 t) (iblk m c 5 t)

/-- The scratch after the first point. -/
theorem scratch_first (c : Dev nD) (t : Fin cfg0.N) (h0 : t.val % 8 = 0) :
    (outsAt0 m c t.val t.isLt).2 = k0_pay2 (F := Ideal) (k0_pay41 (BitVec.ofNat 32 (grid0.coords t 0).val)) (rowsAt m c t) (k0_pay1 (F := Ideal)) := by
  rw [outsAt0_A m c t h0 (by omega)]
  dsimp only
  rw [scratch_A]
  rfl

/-- The scratch after a later point, from the one before. -/
theorem scratch_next (c : Dev nD) (t : Fin cfg0.N) (h0 : ¬t.val % 8 = 0) :
    (outsAt0 m c t.val t.isLt).2 = k0_pay2 (F := Ideal) (k0_pay41 (BitVec.ofNat 32 (grid0.coords t 0).val)) (rowsAt m c t)
      (outsAt0 m c (t.val - 1) (Nat.lt_of_le_of_lt (Nat.sub_le _ _) t.isLt)).2 := by
  by_cases h1 : t.val % 8 = 7
  · rw [outsAt0_C m c t h0 h1]
    dsimp only
    rw [scratch_C]
    rfl
  · rw [outsAt0_B m c t h0 h1]
    dsimp only
    rw [scratch_B]
    rfl

/-- The result block after the last point. -/
theorem result_last (c : Dev nD) (t : Fin cfg0.N) (h1 : t.val % 8 = 7) :
    (outsAt0 m c t.val t.isLt).1 = k0_pay3 (iota .tc S3x128 32 [1] iota_S3x128_d1_w32) (outsAt0 m c t.val t.isLt).2 := by
  rw [scratch_next m c t (by omega), outsAt0_C m c t (by omega) h1]
  dsimp only
  rw [result_C]
  rfl

/-- The grid has eight points, and a point's coordinate is its position. -/
theorem coord_val : ∀ t : Fin cfg0.N, (grid0.coords t 0).val = t.val := by decide +kernel

/-- One point's addition at an index: lane `t` takes the point's row, the others stay. -/
theorem add_at (b : ℕ) (hb : b < 8) (r xs : Vec Ideal S3x128 .f32) (j : Fin 3) (l : Fin 128) :
    k0_pay2 (F := Ideal) (k0_pay41 (BitVec.ofNat 32 b)) r xs (ix2 j l) = xs (ix2 j l) + if l.val = b then r (ix2 j l) else 0 := by
  have h : IntOp.cmpi .eq (BitVec.ofNat 32 l.val) (BitVec.ofNat 32 b) = BitVec.ofBool (decide (l.val = b)) :=
    (by decide : ∀ (l : Fin 128) (b : Fin 8), IntOp.cmpi .eq (BitVec.ofNat 32 l.val) (BitVec.ofNat 32 b.val)
      = BitVec.ofBool (decide (l.val = b.val))) l ⟨b, hb⟩
  pointwise [k0_pay2, k0_pay41]
  rw [h, Body.select_ofBool]

/-- The scratch after point `n`: lane `l` holds image `l`'s rows if the point has passed, zero otherwise. -/
theorem scratch_at (c : Dev nD) (R : ℕ → Fin 3 → EReal) (hR : ∀ (t : Fin cfg0.N) j l, rowsAt m c t (ix2 j l) = R t.val j) :
    ∀ (n : ℕ) (hn : n < cfg0.N) (j : Fin 3) (l : Fin 128),
      (outsAt0 m c n hn).2 (ix2 j l) = if l.val ≤ n then R l.val j else 0 := by
  intro n
  have hN : cfg0.N = 8 := N_0
  induction n with
  | zero =>
    intro hn j l
    rw [scratch_first m c ⟨0, hn⟩ rfl, coord_val, add_at _ (by norm_num), hR]
    have : (k0_pay1 : FVec Ideal S3x128 .f32) (ix2 j l) = 0 := by pointwise [k0_pay1]
    rw [this, zero_add]
    by_cases h : l.val = 0
    · simp [h]
    · simp [h]
  | succ n ih =>
    intro hn j l
    rw [scratch_next m c ⟨n + 1, hn⟩ (by simp only; omega), coord_val, add_at _ (by simp only; omega), hR]
    simp only [Nat.add_sub_cancel]
    rw [ih]
    by_cases h : l.val = n + 1
    · rw [if_neg (by omega), if_pos h, if_pos (by omega), zero_add, h]
    · rw [if_neg h, add_zero]
      by_cases h' : l.val ≤ n
      · rw [if_pos h', if_pos (by omega)]
      · rw [if_neg h', if_neg (by omega)]

/-- What the losses of the eight images come to: row 0 the classification losses, row 1 the box losses, each over the mean weight. -/
def losses (R : ℕ → Fin 3 → EReal) (r : Fin 2) (b : Fin 8) : EReal :=
  Ideal.div (if r = 0 then R b.val 0 else R b.val 1) (max (∑ i : Fin 8, R i.val 2) 1)

/-- The lanes below the eighth hold the eight images' weights. -/
theorem lanes (R : ℕ → Fin 3 → EReal) : (∑ x : Fin 128, Scalar.select (IntOp.cmpi .slt (BitVec.ofNat 32 x.val) 8#32)
    (if x.val ≤ 7 then R x.val 2 else 0) 0) = ∑ i : Fin 8, R i.val 2 := by
  have h : ∀ x : Fin 128, IntOp.cmpi .slt (BitVec.ofNat 32 x.val) 8#32 = BitVec.ofBool (decide (x.val < 8)) := by decide
  simp only [h, Body.select_ofBool]
  have e : (∑ x : Fin 128, if x.val < 8 then (if x.val ≤ 7 then R x.val 2 else 0) else 0)
      = ∑ x : Fin 128, if x.val < 8 then R x.val 2 else 0 := by
    refine Finset.sum_congr rfl fun x _ => ?_
    by_cases hx : x.val < 8
    · rw [if_pos hx, if_pos hx, if_pos (by omega)]
    · rw [if_neg hx, if_neg hx]
  rw [e, ← Finset.sum_filter, show (Finset.univ.filter fun x : Fin 128 => x.val < 8)
    = Finset.univ.map ⟨fun i : Fin 8 => (i.castLE (by norm_num) : Fin 128), fun a b e => Fin.ext (by simpa using congrArg Fin.val e)⟩ from by
      decide, Finset.sum_map]
  rfl

/-- The result block's first two rows, in its first eight lanes. -/
theorem block_at (xs : Vec Ideal S3x128 .f32) (R : ℕ → Fin 3 → EReal)
    (h : ∀ (j : Fin 3) (l : Fin 128), xs (ix2 j l) = if l.val ≤ 7 then R l.val j else 0) (l : Fin 128) (hl : l.val ≤ 7) :
    k0_pay3 (F := Ideal) (iota .tc S3x128 32 [1] iota_S3x128_d1_w32) xs (ix3 0 0 l) = losses R 0 ⟨l.val, by omega⟩ ∧
    k0_pay3 (F := Ideal) (iota .tc S3x128 32 [1] iota_S3x128_d1_w32) xs (ix3 0 1 l) = losses R 1 ⟨l.val, by omega⟩ := by
  unfold losses
  constructor
  · pointwise [k0_pay3, h]
    simp only [Finset.univ_unique, Finset.sum_singleton, if_pos hl, lanes]
  · pointwise [k0_pay3, h]
    simp only [Finset.univ_unique, Finset.sum_singleton, if_pos hl, lanes]

/-- The result's block after the last point, as contents of the region's array. -/
abbrev outBlock (c : Dev nD) : Buf (Elt Ideal) ((c : Thread nD τ).loc main_call0_v16) :=
  (outsAt0 m c 7 (by rw [show cfg0.N = 8 from N_0]; decide)).1

/-- The one block written back is the last point's. -/
theorem flushed_eq (c : Dev nD) (t : Fin cfg0.N) (hf : (cfg0.win 6).flush t = true) :
    (dats m 0 c).flushed 6 t = ((cfg0.win 6).blk t).view.read (Elt Ideal) (outBlock m c) := by
  have hN : cfg0.N = 8 := N_0
  have h7 : t.val = 7 := by have := (flush0_6 t).mp hf; have := t.isLt; omega
  obtain rfl : t = t0_7 := Fin.ext h7
  show (cfg0.win 6).cut (grid0.coords t0_7) ((dats m 0 c).after 6 t0_7) = _
  rw [after0_6]
  have hz' : (fun a => win0_6.index t0_7 a * main_call0_v16.ty.shape.size a) = fun _ => 0 := funext fun a => by fin_cases a <;> decide
  exact (Memref.read_access_unit_zero (Elt Ideal) main_call0_v16 hz' (fun a => by rw [congrFun hz' a]; simp) (outBlock m c)).symm

/-- So the region's array ends at that block. -/
theorem final_o (c : Dev nD) : (dats m 0 c).arrAt 6 cfg0.N = outBlock m c :=
  (dats m 0 c).arrAt_eq_of_cover 6 (outBlock m c) (flushed_eq m c) fun i =>
    ⟨t0_7, (flush0_6 t0_7).mpr rfl, by
      show i ∈ ((View.whole main_call0_v16).slice (win0_6.rect t0_7)).set
      rw [View.set_slice_whole, Rect.mem_set_unit]
      intro a
      have h0 : (i 0 : Nat) < 1 := (i 0).isLt
      have h1 : (i 1 : Nat) < 8 := (i 1).isLt
      have h2 : (i 2 : Nat) < 128 := (i 2).isLt
      match a with
      | ⟨0, _⟩ => show win0_6.index t0_7 0 * win0_6.size 0 ≤ (i 0 : Nat) ∧ (i 0 : Nat) < win0_6.index t0_7 0 * win0_6.size 0 + win0_6.xsize (grid0.coords t0_7) 0
                  rw [show win0_6.index t0_7 0 * win0_6.size 0 = 0 from by decide +kernel, show win0_6.xsize (grid0.coords t0_7) 0 = 1 from by decide +kernel]; omega
      | ⟨1, _⟩ => show win0_6.index t0_7 1 * win0_6.size 1 ≤ (i 1 : Nat) ∧ (i 1 : Nat) < win0_6.index t0_7 1 * win0_6.size 1 + win0_6.xsize (grid0.coords t0_7) 1
                  rw [show win0_6.index t0_7 1 * win0_6.size 1 = 0 from by decide +kernel, show win0_6.xsize (grid0.coords t0_7) 1 = 8 from by decide +kernel]; omega
      | ⟨2, _⟩ => show win0_6.index t0_7 2 * win0_6.size 2 ≤ (i 2 : Nat) ∧ (i 2 : Nat) < win0_6.index t0_7 2 * win0_6.size 2 + win0_6.xsize (grid0.coords t0_7) 2
                  rw [show win0_6.index t0_7 2 * win0_6.size 2 = 0 from by decide +kernel, show win0_6.xsize (grid0.coords t0_7) 2 = 128 from by decide +kernel]; omega⟩

/-- The kernel's result: the region's array, its first two rows and eight lanes. -/
theorem tail_eq (c : Dev nD) : Pipeline.afterTail₀ cfgs (dats m) 0 (V0 m) [hostOps1] c main_v0
    = shapeCast S2x8 (extractStridedSlice S1x2x8 ![0, 0, 0] (outBlock m c) slices_S1x8x128_S1x2x8_0_0_0) shapeCasts_S1x2x8_S2x8 := by
  unfold Pipeline.afterTail₀
  simp only [List.flatten_cons, List.flatten_nil, List.append_nil]
  after_results
  rw [show (Pipeline.withArrays (cfgs 0).spec c (V0 m c) fun w => (dats m 0 c).arrAt w (cfgs 0).N) (Proc.tc.devRef main_call0_v16)
    = outBlock m c from (Pipeline.withArrays_arr (cfgs 0).spec (by decide) c (V0 m c) _ 6).trans (final_o m c)]
  rfl

/-- The classes' scores, anchors last. -/
theorem V_v0 (c : Dev nD) : V m c main_call0_v0
    = transpose S8x80x5000 [0, 2, 1] (m ((c : Thread nD τ).loc main_arg0)) transposes_S8x5000x80_S8x80x5000_0_2_1 := by
  show StableHlo.after [hostOps0].flatten _ _ = _
  simp only [List.flatten_cons, List.flatten_nil, List.append_nil]
  after_results
  rfl

/-- The anchors' boxes, anchors last. -/
theorem V_v1 (c : Dev nD) : V m c main_call0_v1
    = transpose S8x4x5000 [0, 2, 1] (m ((c : Thread nD τ).loc main_arg1)) transposes_S8x5000x4_S8x4x5000_0_2_1 := by
  show StableHlo.after [hostOps0].flatten _ _ = _
  simp only [List.flatten_cons, List.flatten_nil, List.append_nil]
  after_results
  rfl

/-- The targets' labels, as a column. -/
theorem V_v2 (c : Dev nD) : V m c main_call0_v2
    = shapeCast S8x60x1 (m ((c : Thread nD τ).loc main_arg3)) shapeCasts_S8x60_S8x60x1 := by
  show StableHlo.after [hostOps0].flatten _ _ = _
  simp only [List.flatten_cons, List.flatten_nil, List.append_nil]
  after_results
  rfl

/-- A small number's float is the number. -/
theorem sitofp_small (n : ℕ) (h : n < 2 ^ 31) : FloatOps.sitofp (F := Ideal) .f32 (BitVec.ofNat 32 n) = ((n : ℝ) : EReal) := by
  show (((BitVec.ofNat 32 n).toInt : ℝ) : EReal) = _
  rw [BitVec.toInt_ofNat', Int.bmod_eq_of_le (by omega) (by omega)]
  norm_num

/-- The keys of the zero metrics: the smallest normal number times the anchor's position, negated. -/
theorem V_v8 (c : Dev nD) (n : Fin 5000) : V m c main_call0_v8 (ix3 0 0 n)
    = Ideal.ofBits .f32 0x80800000#32 * (((n.val : ℝ) : EReal) + 1) := by
  show StableHlo.after [hostOps0].flatten _ _ _ = _
  simp only [List.flatten_cons, List.flatten_nil, List.append_nil]
  after_results
  show shapeCast S1x1x5000 (mulf (broadcastInDim S5000 ![] bcast_S_S5000 (constant (F := Ideal) S_ .f32 0x80800000#32))
    (addf (sitofp .f32 (iotaInDim S5000 32 0)) (broadcastInDim S5000 ![] bcast_S_S5000 (constant (F := Ideal) S_ .f32 0x3F800000#32)))) shapeCasts_S5000_S1x1x5000 (ix3 0 0 n) = _
  pointwise
  rw [sitofp_small _ (by omega)]

/-- The keys of the targets that are no candidates. -/
theorem V_v15 (c : Dev nD) (g : Fin 60) : V m c main_call0_v15 (ix3 0 g 0)
    = -(Ideal.ofBits .f32 0x4E6E6B28#32 + Ideal.ofBits .f32 0x44800000#32 * ((g.val : ℝ) : EReal)) := by
  show StableHlo.after [hostOps0].flatten _ _ _ = _
  simp only [List.flatten_cons, List.flatten_nil, List.append_nil]
  after_results
  show shapeCast S1x60x1 (Host.negf (addf (broadcastInDim S60 ![] bcast_S_S60 (constant (F := Ideal) S_ .f32 0x4E6E6B28#32))
    (mulf (broadcastInDim S60 ![] bcast_S_S60 (constant (F := Ideal) S_ .f32 0x44800000#32)) (sitofp .f32 (iotaInDim S60 32 0))))) shapeCasts_S60_S1x60x1 (ix3 0 g 0) = _
  pointwise
  rw [sitofp_small _ (by omega)]

/-- The kernel's result at an index, from every point's rows. -/
theorem result_at (c : Dev nD) (R : ℕ → Fin 3 → EReal) (hR : ∀ (t : Fin cfg0.N) j l, rowsAt m c t (ix2 j l) = R t.val j)
    (r : Fin 2) (b : Fin 8) : Pipeline.afterTail₀ cfgs (dats m) 0 (V0 m) [hostOps1] c main_v0 (ix2 r b) = losses R r b := by
  rw [tail_eq]
  have h7 : 7 < cfg0.N := by rw [show cfg0.N = 8 from N_0]; decide
  have hb := block_at (outsAt0 m c 7 h7).2 R (fun j l => scratch_at m c R hR 7 h7 j l) ⟨b.val, by omega⟩ (by simp only; omega)
  have ho : outBlock m c = k0_pay3 (iota .tc S3x128 32 [1] iota_S3x128_d1_w32) (outsAt0 m c 7 h7).2 := result_last m c ⟨7, h7⟩ rfl
  rw [ho]
  generalize k0_pay3 (iota .tc S3x128 32 [1] iota_S3x128_d1_w32) (outsAt0 m c 7 h7).2 = w at hb
  match r with
  | 0 => exact Eq.trans (by pointwise) hb.1
  | 1 => exact Eq.trans (by pointwise) hb.2

/-- The kernel's run: its result at the eight images' losses, its arguments unchanged. -/
theorem run (R : Dev nD → ℕ → Fin 3 → EReal) (hR : ∀ c (t : Fin cfg0.N) j l, rowsAt m c t (ix2 j l) = R c t.val j) :
    θ_run defs (onTc (τ := τ) (main (F := Ideal))) ⟨m, fun _ => 0, ρ⟩ fun r => ∀ c : Dev nD,
      (∀ (i : Fin 2) (b : Fin 8), r.2.mem ((c.tc : Thread nD τ).loc main_v0) (ix2 i b) = losses (R c) i b)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨fun i b =>
      (congrFun ((h.2 c).2 main_v0 (Pipeline.mem_restRefs_of main_v0 (by decide) (by decide))) (ix2 i b)).trans (result_at m c (R c) (hR c) i b),
      h.1 c⟩)
    (θ_run_and (unchanged m ρ) (run_main m ρ))

end Cert.KernelIdeal.Value
end
-- ==== Proof.KernelImage.lean ====
/- The kernel's blocks at a grid point are one image of the batch, so its rows are that image's losses. -/
module

public import proofs.«01_k».proof.Proof.Rows
public import proofs.«01_k».proof.Proof.KernelRun

@[expose] public section

set_option maxRecDepth 16384

noncomputable section

namespace Cert.KernelIdeal.Value

open Idealize.ShloMosaic Idealize.ShloMosaic.TcCoe Idealize.SL.Sem
open Cert.KernelIdeal Cert.KernelIdeal.Gen Cert.Loss

variable (m : (ℓ : Loc nD τ sig) → Buf (Elt Ideal) ℓ) (c : Dev nD)

/-- A point's image. -/
def img (t : Fin cfg0.N) : Fin 8 := ⟨t.val, lt_of_lt_of_eq t.isLt N_0⟩

/-- The scores' block is the image's scores. -/
theorem scores_at (t : Fin cfg0.N) (k : Fin 80) (n : Fin 5000) :
    (iblk m c 0 t : Vec Ideal S1x80x5000 .f32) (ix3 0 k n) = m ((c.tc : Thread nD τ).loc main_arg0) (ix3 (img t) n k) := by
  have hi : win0_0.index t 0 = t.val ∧ win0_0.index t 1 = 0 ∧ win0_0.index t 2 = 0 := by
    rcases fin_N0 t with rfl | rfl | rfl | rfl | rfl | rfl | rfl | rfl <;> decide
  have hV : V m c main_call0_v0 (ix3 (img t) k n) = m ((c.tc : Thread nD τ).loc main_arg0) (ix3 (img t) n k) := by
    rw [V_v0]
    exact Eq.trans (by pointwise) rfl
  rw [← hV]
  unfold iblk
  rw [View.read_apply]
  show V m c main_call0_v0 _ = V m c main_call0_v0 _
  congr 1
  funext a
  apply Fin.ext
  match a with
  | ⟨0, _⟩ => show win0_0.index t 0 * 1 + 1 * 0 = t.val; omega
  | ⟨1, _⟩ => show win0_0.index t 1 * 80 + 1 * k.val = k.val; omega
  | ⟨2, _⟩ => show win0_0.index t 2 * 5000 + 1 * n.val = n.val; omega

/-- The anchors' block is the image's boxes. -/
theorem boxes_at (t : Fin cfg0.N) (k : Fin 4) (n : Fin 5000) :
    (iblk m c 1 t : Vec Ideal S1x4x5000 .f32) (ix3 0 k n) = m ((c.tc : Thread nD τ).loc main_arg1) (ix3 (img t) n k) := by
  have hi : win0_1.index t 0 = t.val ∧ win0_1.index t 1 = 0 ∧ win0_1.index t 2 = 0 := by
    rcases fin_N0 t with rfl | rfl | rfl | rfl | rfl | rfl | rfl | rfl <;> decide
  have hV : V m c main_call0_v1 (ix3 (img t) k n) = m ((c.tc : Thread nD τ).loc main_arg1) (ix3 (img t) n k) := by
    rw [V_v1]
    exact Eq.trans (by pointwise) rfl
  rw [← hV]
  unfold iblk
  rw [View.read_apply]
  show V m c main_call0_v1 _ = V m c main_call0_v1 _
  congr 1
  funext a
  apply Fin.ext
  match a with
  | ⟨0, _⟩ => show win0_1.index t 0 * 1 + 1 * 0 = t.val; omega
  | ⟨1, _⟩ => show win0_1.index t 1 * 4 + 1 * k.val = k.val; omega
  | ⟨2, _⟩ => show win0_1.index t 2 * 5000 + 1 * n.val = n.val; omega

/-- The targets' block is the image's targets. -/
theorem targets_at (t : Fin cfg0.N) (g : Fin 60) (k : Fin 4) :
    (iblk m c 2 t : Vec Ideal S1x60x4 .f32) (ix3 0 g k) = m ((c.tc : Thread nD τ).loc main_arg2) (ix3 (img t) g k) := by
  have hi : win0_2.index t 0 = t.val ∧ win0_2.index t 1 = 0 ∧ win0_2.index t 2 = 0 := by
    rcases fin_N0 t with rfl | rfl | rfl | rfl | rfl | rfl | rfl | rfl <;> decide
  rw [← V_main_arg2 m c]
  unfold iblk
  rw [View.read_apply]
  show V m c main_arg2 _ = V m c main_arg2 _
  congr 1
  funext a
  apply Fin.ext
  match a with
  | ⟨0, _⟩ => show win0_2.index t 0 * 1 + 1 * 0 = t.val; omega
  | ⟨1, _⟩ => show win0_2.index t 1 * 60 + 1 * g.val = g.val; omega
  | ⟨2, _⟩ => show win0_2.index t 2 * 4 + 1 * k.val = k.val; omega

/-- The labels' block is the image's labels. -/
theorem labels_at (t : Fin cfg0.N) (g : Fin 60) :
    (iblk m c 3 t : Vec Ideal S1x60x1 .i32) (ix3 0 g 0) = m ((c.tc : Thread nD τ).loc main_arg3) (ix2 (img t) g) := by
  have hi : win0_3.index t 0 = t.val ∧ win0_3.index t 1 = 0 ∧ win0_3.index t 2 = 0 := by
    rcases fin_N0 t with rfl | rfl | rfl | rfl | rfl | rfl | rfl | rfl <;> decide
  have hV : V m c main_call0_v2 (ix3 (img t) g 0) = m ((c.tc : Thread nD τ).loc main_arg3) (ix2 (img t) g) := by
    rw [V_v2]
    exact Eq.trans (by pointwise) rfl
  rw [← hV]
  unfold iblk
  rw [View.read_apply]
  show V m c main_call0_v2 _ = V m c main_call0_v2 _
  congr 1
  funext a
  apply Fin.ext
  match a with
  | ⟨0, _⟩ => show win0_3.index t 0 * 1 + 1 * 0 = t.val; omega
  | ⟨1, _⟩ => show win0_3.index t 1 * 60 + 1 * g.val = g.val; omega
  | ⟨2, _⟩ => show win0_3.index t 2 * 1 + 1 * 0 = 0; omega

/-- The keys of the zero metrics, the same at every point. -/
theorem keys_at (t : Fin cfg0.N) (n : Fin 5000) :
    (iblk m c 4 t : Vec Ideal S1x1x5000 .f32) (ix3 0 0 n) = Ideal.ofBits .f32 0x80800000#32 * (((n.val : ℝ) : EReal) + 1) := by
  have hi : win0_4.index t 0 = 0 ∧ win0_4.index t 1 = 0 ∧ win0_4.index t 2 = 0 := by
    rcases fin_N0 t with rfl | rfl | rfl | rfl | rfl | rfl | rfl | rfl <;> decide
  rw [← V_v8 m c n]
  unfold iblk
  rw [View.read_apply]
  show V m c main_call0_v8 _ = V m c main_call0_v8 _
  congr 1
  funext a
  apply Fin.ext
  match a with
  | ⟨0, _⟩ => show win0_4.index t 0 * 1 + 1 * 0 = 0; omega
  | ⟨1, _⟩ => show win0_4.index t 1 * 1 + 1 * 0 = 0; omega
  | ⟨2, _⟩ => show win0_4.index t 2 * 5000 + 1 * n.val = n.val; omega

/-- The keys of the targets that are no candidates, the same at every point. -/
theorem fills_at (t : Fin cfg0.N) (g : Fin 60) : (iblk m c 5 t : Vec Ideal S1x60x1 .f32) (ix3 0 g 0)
    = -(Ideal.ofBits .f32 0x4E6E6B28#32 + Ideal.ofBits .f32 0x44800000#32 * ((g.val : ℝ) : EReal)) := by
  have hi : win0_5.index t 0 = 0 ∧ win0_5.index t 1 = 0 ∧ win0_5.index t 2 = 0 := by
    rcases fin_N0 t with rfl | rfl | rfl | rfl | rfl | rfl | rfl | rfl <;> decide
  rw [← V_v15 m c g]
  unfold iblk
  rw [View.read_apply]
  show V m c main_call0_v15 _ = V m c main_call0_v15 _
  congr 1
  funext a
  apply Fin.ext
  match a with
  | ⟨0, _⟩ => show win0_5.index t 0 * 1 + 1 * 0 = 0; omega
  | ⟨1, _⟩ => show win0_5.index t 1 * 60 + 1 * g.val = g.val; omega
  | ⟨2, _⟩ => show win0_5.index t 2 * 1 + 1 * 0 = 0; omega

/-- The key's factor is a small negative number. -/
theorem key_real (n : ℕ) : Ideal.ofBits .f32 0x80800000#32 * (((n : ℝ) : EReal) + 1)
    = ((-(8388608 * (2:ℝ)^(-149:ℤ)) * (n + 1) : ℝ) : EReal) := by
  rw [show Ideal.ofBits .f32 0x80800000#32 = ((-(8388608 * (2:ℝ)^(-149:ℤ)) : ℝ) : EReal) by
    simp [Ideal.ofBits, Ideal.ieee, -EReal.coe_mul, -EReal.coe_neg]]
  rw [EReal.coe_mul, EReal.coe_add, EReal.coe_one]

/-- The filler of target `g` is `-(1e9 + 1024 g)`. -/
theorem fill_real (g : ℕ) : -(Ideal.ofBits .f32 0x4E6E6B28#32 + Ideal.ofBits .f32 0x44800000#32 * ((g : ℝ) : EReal))
    = ((-(15625000 * (2:ℝ)^(6:ℤ) + 8388608 * (2:ℝ)^(-13:ℤ) * g) : ℝ) : EReal) := by
  rw [show Ideal.ofBits .f32 0x4E6E6B28#32 = ((15625000 * (2:ℝ)^(6:ℤ) : ℝ) : EReal) by
      simp [Ideal.ofBits, Ideal.ieee, -EReal.coe_mul, -EReal.coe_neg],
    show Ideal.ofBits .f32 0x44800000#32 = ((8388608 * (2:ℝ)^(-13:ℤ) : ℝ) : EReal) by
      simp [Ideal.ofBits, Ideal.ieee, -EReal.coe_mul, -EReal.coe_neg]]
  rw [← EReal.coe_mul, ← EReal.coe_add, ← EReal.coe_neg]

variable (I : ℕ → Image) (σ : ℕ → Fin 60 → Fin 5000 → Fin 5000) (a : ℕ → Fin 5000 → Fin 60)

/-- What the kernel's arguments hold: image `b` of the batch, with the assignment `σ`, `a` chosen. -/
structure Holds : Prop where
  scores : ∀ (b : Fin 8) (n : Fin 5000) (k : Fin 80), m ((c.tc : Thread nD τ).loc main_arg0) (ix3 b n k) = (I b.val).cs n k
  boxes : ∀ (b : Fin 8) (n : Fin 5000) (k : Fin 4), m ((c.tc : Thread nD τ).loc main_arg1) (ix3 b n k) = (I b.val).bp n k
  targets : ∀ (b : Fin 8) (g : Fin 60) (k : Fin 4), m ((c.tc : Thread nD τ).loc main_arg2) (ix3 b g k) = (I b.val).gb g k
  labels : ∀ (b : Fin 8) (g : Fin 60), m ((c.tc : Thread nD τ).loc main_arg3) (ix2 b g) = BitVec.ofNat 32 ((I b.val).lab g).val
  chosen : ∀ b : Fin 8, (I b.val).Chosen (σ b.val) (a b.val)

/-- The three rows of image `b`. -/
def row (b : ℕ) (j : Fin 3) : EReal :=
  if j = 0 then (I b).lossCls (σ b) (a b) else if j = 1 then (I b).lossBox (σ b) (a b) else (I b).weight (σ b) (a b)

variable {m c I σ a} (H : Holds m c I σ a)

include H in
/-- The blocks' image. -/
theorem image_eq (t : Fin cfg0.N) :
    Body.image (iblk m c 0 t) (iblk m c 1 t) (iblk m c 2 t) (I t.val).lab = I t.val := by
  have h0 : ∀ n k, (iblk m c 0 t : Vec Ideal S1x80x5000 .f32) (ix3 0 k n) = (I t.val).cs n k := fun n k =>
    (scores_at m c t k n).trans (H.scores (img t) n k)
  have h1 : ∀ n k, (iblk m c 1 t : Vec Ideal S1x4x5000 .f32) (ix3 0 k n) = (I t.val).bp n k := fun n k =>
    (boxes_at m c t k n).trans (H.boxes (img t) n k)
  have h2 : ∀ g k, (iblk m c 2 t : Vec Ideal S1x60x4 .f32) (ix3 0 g k) = (I t.val).gb g k := fun g k =>
    (targets_at m c t g k).trans (H.targets (img t) g k)
  generalize I t.val = J at *
  obtain ⟨cs, bp, gb, lab⟩ := J
  unfold Body.image
  congr 1
  · exact funext fun n => funext fun k => h0 n k
  · exact funext fun n => funext fun k => h1 n k
  · exact funext fun g => funext fun k => h2 g k

include H in
/-- The blocks meet what the body's reading asks of them. -/
theorem blocks (t : Fin cfg0.N) : Body.Blocks (iblk m c 0 t) (iblk m c 1 t) (iblk m c 2 t) (iblk m c 3 t) (iblk m c 4 t) (iblk m c 5 t)
    (I t.val).lab (σ t.val) (a t.val) where
  label g := (labels_at m c t g).trans (H.labels (img t) g)
  key_lt i j h := by
    rw [keys_at, keys_at, key_real, key_real, EReal.coe_lt_coe_iff]
    have : (i.val : ℝ) < j.val := by exact_mod_cast h
    have h2 : (0:ℝ) < (2:ℝ)^(-149:ℤ) := by positivity
    nlinarith
  key_neg n := by
    rw [keys_at, key_real]
    refine EReal.coe_neg'.mpr ?_
    have h2 : (0:ℝ) < (2:ℝ)^(-149:ℤ) := by positivity
    have : (0:ℝ) ≤ n.val := by positivity
    nlinarith
  key_mark n := by
    rw [keys_at, key_real]
    refine mark_lt.trans (EReal.coe_lt_coe_iff.mpr ?_)
    have : (n.val : ℝ) < 5000 := by exact_mod_cast n.isLt
    norm_num
    linarith
  fill_lt g h := by
    rw [fills_at, fills_at, fill_real, fill_real, EReal.coe_lt_coe_iff]
    have : (0:ℝ) < g.val := by exact_mod_cast Nat.pos_of_ne_zero fun e => h (Fin.ext e)
    have h2 : (0:ℝ) < (2:ℝ)^(-13:ℤ) := by positivity
    rw [show (((0 : Fin 60).val : ℕ) : ℝ) = 0 from Nat.cast_zero]
    nlinarith
  fill_neg := by
    rw [fills_at, fill_real]
    refine EReal.coe_neg'.mpr ?_
    norm_num
  chosen := by
    rw [image_eq H t]
    exact H.chosen (img t)

include H in
/-- A point's rows are its image's losses and weight. -/
theorem rowsAt_eq (t : Fin cfg0.N) (j : Fin 3) (l : Fin 128) : rowsAt m c t (ix2 j l) = row I σ a t.val j := by
  unfold rowsAt
  rw [Body.rows_at (blocks H t) j l, image_eq H t]
  rfl

end Cert.KernelIdeal.Value
end
-- ==== Proof.Sort.lean ====
/- The stable sort by greater-than: a permutation in descending order, equal values in the order of their positions. -/
module

public import proofs.«01_k».proof.Proof.Spec
public import Idealize.ShloMosaic.Lib.SortFacts
public import Idealize.ShloMosaic.Lib.Pointwise

@[expose] public section

noncomputable section

namespace Cert.Loss

open Idealize.ShloMosaic

variable {N : ℕ} (f : Fin N → EReal)

/-- `x` comes before `y`: a greater value, or the same value at an earlier position. -/
def Before (x y : Fin N) : Prop := f y < f x ∨ (f y = f x ∧ x < y)

/-- Inserting an earlier position into a list in order keeps the order. -/
theorem insert_ordered (gt : Fin N → Fin N → Bool) (hgt : ∀ k k', gt k k' = true ↔ f k' < f k) (a : Fin N) :
    ∀ l : List (Fin N), l.Pairwise (Before f) → (∀ b ∈ l, a < b) → (insertBefore gt a l).Pairwise (Before f)
  | [], _, _ => List.pairwise_singleton _ _
  | b :: l, hl, ha => by
    obtain ⟨hb, hl'⟩ := List.pairwise_cons.mp hl
    unfold insertBefore
    by_cases h : gt b a = true
    · rw [if_pos h]
      refine List.pairwise_cons.mpr ⟨fun x hx => ?_, insert_ordered gt hgt a l hl' fun b' hb' => ha b' (List.mem_cons_of_mem _ hb')⟩
      rcases List.mem_cons.mp ((perm_insertBefore gt a l).mem_iff.mp hx) with e | hx
      · exact Or.inl (e ▸ (hgt b a).mp h)
      · exact hb x hx
    · rw [if_neg h]
      have hba : f b ≤ f a := not_lt.mp fun h' => h ((hgt b a).mpr h')
      refine List.pairwise_cons.mpr ⟨fun x hx => ?_, hl⟩
      have hxb : f x ≤ f b := by
        rcases List.mem_cons.mp hx with e | hx
        · rw [e]
        · exact (hb x hx).elim le_of_lt fun h => le_of_eq h.1
      rcases lt_or_eq_of_le (hxb.trans hba) with h1 | h1
      · exact Or.inl h1
      · exact Or.inr ⟨h1, ha x hx⟩

/-- The stable sort of positions in order is in order. -/
theorem sort_ordered (gt : Fin N → Fin N → Bool) (hgt : ∀ k k', gt k k' = true ↔ f k' < f k) :
    ∀ l : List (Fin N), l.Pairwise (· < ·) → (stableSort gt l).Pairwise (Before f)
  | [], _ => List.Pairwise.nil
  | a :: l, hl => by
    obtain ⟨ha, hl'⟩ := List.pairwise_cons.mp hl
    exact insert_ordered f gt hgt a _ (sort_ordered gt hgt l hl') fun b hb => ha b ((perm_stableSort gt l).mem_iff.mp hb)

/-- The positions in descending order of their values. -/
def order : Fin N → Fin N := sortedFrom fun k k' => decide (f k' < f k)

/-- An earlier place holds a position that comes before. -/
theorem order_before (i j : Fin N) (h : i < j) : Before f (order f i) (order f j) := by
  have hp := sort_ordered f (fun k k' => decide (f k' < f k)) (fun k k' => decide_eq_true_iff) (List.finRange N) (List.pairwise_lt_finRange N)
  exact List.pairwise_iff_get.mp hp _ _ (show i.val < j.val from h)

/-- The sort ranks the values. -/
theorem order_ranked {f : Fin 5000 → EReal} : Ranked f (order f) where
  surj := sortedFrom_surjective _
  inj := sortedFrom_injective _
  order i j h := (order_before f i j h).imp id fun h => ⟨h.1, h.2⟩

/-- The first place holds the first position of the largest value. -/
theorem order_first {N : ℕ} (f : Fin (N + 1) → EReal) : First f (order f 0) := fun g => by
  obtain ⟨i, rfl⟩ := sortedFrom_surjective (fun k k' => decide (f k' < f k)) g
  by_cases h : i = 0
  · subst h; exact Or.inr ⟨rfl, le_refl _⟩
  · exact (order_before f 0 i (Fin.pos_of_ne_zero h)).imp id fun h => ⟨h.1, le_of_lt h.2⟩

/-- The greater-than of the reals' order, as a bit. -/
theorem gt_bit (x y : EReal) : (FloatOps.cmpfTotal (F := Ideal) (φ := .f32) .gt x y == 1#1) = decide (y < x) := by
  show ((BitVec.ofBool (decide (y < x))) == 1#1) = _
  by_cases h : y < x <;> simp [h]

/-- The k best along the last axis, at an index: the values at the sort's first places, and the positions. -/
theorem topK_at {A B N K : ℕ} (x : FVec Ideal ⟨3, ![A, B, N]⟩ .f32) (h : (⟨3, ![A, B, N]⟩ : Shape).Slices (fun _ => 0) ⟨3, ![A, B, K]⟩)
    (hK : K ≤ N) (b : Fin A) (g : Fin B) (i : Fin K) :
    (Host.topK ⟨3, ![A, B, K]⟩ 2 (FloatOps.cmpfTotal (F := Ideal) (φ := .f32) .gt) x h).1 (ix3 b g i)
        = x (ix3 b g (order (fun n => x (ix3 b g n)) (i.castLE hK))) ∧
    (Host.topK ⟨3, ![A, B, K]⟩ 2 (FloatOps.cmpfTotal (F := Ideal) (φ := .f32) .gt) x h).2 (ix3 b g i)
        = BitVec.ofNat 32 (order (fun n => x (ix3 b g n)) (i.castLE hK)).val := by
  have al : ∀ k : Fin N, (ix3 b g (i.castLE hK) : (⟨3, ![A, B, N]⟩ : Shape).Idx).along 2 k = ix3 b g k := fun k => by
    funext a
    unfold Shape.Idx.along
    match a with
    | 0 => rfl
    | 1 => rfl
    | 2 => rfl
  have hs : extractStridedSlice ⟨3, ![A, B, K]⟩ (fun _ => 0) (fun j : (⟨3, ![A, B, N]⟩ : Shape).Idx => j) h (ix3 b g i)
      = ix3 b g (i.castLE hK) := by
    funext a
    match a with
    | 0 => exact Fin.ext (Nat.zero_add _)
    | 1 => exact Fin.ext (Nat.zero_add _)
    | 2 => exact Fin.ext (Nat.zero_add _)
  have ho : sortedFrom (fun k k' => (FloatOps.cmpfTotal (F := Ideal) (φ := .f32) .gt (x (ix3 b g k)) (x (ix3 b g k'))) == 1#1)
      = order fun n => x (ix3 b g n) := by
    unfold order
    congr 1
    funext k k'
    exact gt_bit _ _
  have kv : ∀ P : Fin N → (⟨3, ![A, B, N]⟩ : Shape).Idx, P = ix3 b g →
      x (P (sortedFrom (fun k k' => (FloatOps.cmpfTotal (F := Ideal) (φ := .f32) .gt (x (P k)) (x (P k'))) == 1#1) (i.castLE hK)))
        = x (ix3 b g (order (fun n => x (ix3 b g n)) (i.castLE hK))) := by
    rintro _ rfl
    rw [ho]
  have ki : ∀ P : Fin N → (⟨3, ![A, B, N]⟩ : Shape).Idx, P = ix3 b g →
      BitVec.ofNat 32 (P (sortedFrom (fun k k' => (FloatOps.cmpfTotal (F := Ideal) (φ := .f32) .gt (x (P k)) (x (P k'))) == 1#1)
        (i.castLE hK)) 2).val = BitVec.ofNat 32 (order (fun n => x (ix3 b g n)) (i.castLE hK)).val := by
    rintro _ rfl
    rw [ho]
    rfl
  have h2 : 2 < (⟨3, ![A, B, N]⟩ : Shape).rank := by show 2 < 3; decide
  unfold Host.topK Host.sort2
  simp only [dif_pos h2]
  have hr : ∀ {α : Type} (y : (⟨3, ![A, B, N]⟩ : Shape).Idx → α), extractStridedSlice ⟨3, ![A, B, K]⟩ (fun _ => 0) y h (ix3 b g i)
      = y (ix3 b g (i.castLE hK)) := fun y => congrArg y hs
  exact ⟨(hr _).trans (kv _ (funext al)), (hr _).trans (ki _ (funext al))⟩

/-- A target's anchors, best first. -/
def ranks (I : Image) (g : Fin 60) : Fin 5000 → Fin 5000 := order fun n => I.metric n g

/-- An anchor's target: the one it fits best among those it is a candidate of. -/
def assigned (I : Image) (n : Fin 5000) : Fin 60 := order (filled (G := 59) (Image.cand (ranks I) n) (I.metric n) fun _ => filler) 0

end Cert.Loss
end
-- ==== Proof.Gather.lean ====
/- The reference's gathers and joins, read at an index when their index words are in range. -/
module

public import proofs.«01_k».proof.Proof.Gen.ReferenceIdeal.Read
public import proofs.«01_k».proof.Proof.Sort

@[expose] public section

set_option maxRecDepth 16384

noncomputable section

namespace Cert.ReferenceIdeal.Read

open Idealize.ShloMosaic Idealize.ShloMosaic.TcCoe Cert.ReferenceIdeal Cert.ReferenceIdeal.Gen

/-- A gather at a result index, when the operand index it reads is known. -/
theorem gather_of {α : Type} {s si t : Shape} {w : ℕ} (d : GatherDims s si t) (x : s.Idx → α) (idx : IVec si w) (j : t.Idx)
    (k : s.Idx) (h : ∀ a, d.start j idx a + d.batchCoord j a + d.offCoord j a = (k a).val) : Host.gather d x idx j = x k := by
  show x (d.operandIdx j idx) = x k
  congr 1
  funext a
  exact Fin.ext (h a)

/-- A small word read back as a number, below a bound. -/
theorem word_at (v : BitVec 32) (k b : ℕ) (hv : v = BitVec.ofNat 32 k) (hk : k ≤ b) (hb : b < 2147483648) :
    min v.toInt.toNat b = k := by
  subst hv
  have : (BitVec.ofNat 32 k).toInt = (k : ℤ) := by
    rw [BitVec.toInt_ofNat']
    exact Int.bmod_eq_of_le (by omega) (by omega)
  rw [this, Int.toNat_natCast]
  omega

/-- The wrap of a negative index leaves a small word. -/
theorem wrap_at (v : BitVec 32) (k : ℕ) (w : BitVec 32) (hv : v = BitVec.ofNat 32 k) (hk : k < 2147483648) :
    Scalar.select (IntOp.cmpi .slt v 0#32) w v = BitVec.ofNat 32 k := by
  subst hv
  have h : ¬ (BitVec.ofNat 32 k).toInt < (0#32).toInt := by
    rw [BitVec.toInt_ofNat', Int.bmod_eq_of_le (by omega) (by omega)]
    simp
  have : IntOp.cmpi .slt (BitVec.ofNat 32 k) 0#32 = 0#1 := by
    show BitVec.ofBool (BitVec.slt _ _) = 0#1
    rw [BitVec.slt_eq_decide, decide_eq_false h]
    rfl
  rw [this]
  rfl

/-- The gather of the targets' class scores. -/
theorem gather_classes {α : Type} (x : S8x5000x80.Idx → α) (idx : IVec S8x60x1 32) (b : Fin 8) (n : Fin 5000) (g : Fin 60) (k : Fin 80)
    (h : idx (ix3 b g 0) = BitVec.ofNat 32 k.val) :
    Host.gather gather_S8x5000x80_S8x60x1_S8x5000x60_1_2_0_0_2_2_150001 x idx (ix3 b n g) = x (ix3 b n k) := by
  refine gather_of _ _ _ _ _ fun a => ?_
  match a with
  | ⟨0, _⟩ => exact (Nat.zero_add _)
  | ⟨1, _⟩ => exact (Nat.zero_add _)
  | ⟨2, _⟩ =>
    refine (word_at _ k.val 79 ?_ (by omega) (by decide))
    refine Eq.trans (congrArg idx ?_) h
    funext a
    match a with
    | ⟨0, _⟩ => rfl
    | ⟨1, _⟩ => rfl
    | ⟨2, _⟩ => rfl

/-- The gather of one element a row of an anchors-by-targets array. -/
theorem gather_target {α : Type} (x : S8x5000x60.Idx → α) (idx : IVec S8x5000x2 32) (b : Fin 8) (n : Fin 5000) (k : Fin 5000) (g : Fin 60)
    (h0 : idx (ix3 b n 0) = BitVec.ofNat 32 k.val) (h1 : idx (ix3 b n 1) = BitVec.ofNat 32 g.val) :
    Host.gather gather_S8x5000x60_S8x5000x2_S8x5000_n_12_0_0_12_2_111 x idx (ix2 b n) = x (ix3 b k g) := by
  refine gather_of _ _ _ _ _ fun a => ?_
  match a with
  | ⟨0, _⟩ => exact (Nat.zero_add _)
  | ⟨1, _⟩ =>
    refine (word_at _ k.val 4999 ?_ (by omega) (by decide))
    refine Eq.trans (congrArg idx ?_) h0
    funext a
    match a with
    | ⟨0, _⟩ => rfl
    | ⟨1, _⟩ => rfl
    | ⟨2, _⟩ => rfl
  | ⟨2, _⟩ =>
    refine (word_at _ g.val 59 ?_ (by omega) (by decide))
    refine Eq.trans (congrArg idx ?_) h1
    funext a
    match a with
    | ⟨0, _⟩ => rfl
    | ⟨1, _⟩ => rfl
    | ⟨2, _⟩ => rfl

/-- The gather of one element a row of an anchors-by-classes array. -/
theorem gather_class {α : Type} (x : S8x5000x80.Idx → α) (idx : IVec S8x5000x2 32) (b : Fin 8) (n : Fin 5000) (k : Fin 5000) (g : Fin 80)
    (h0 : idx (ix3 b n 0) = BitVec.ofNat 32 k.val) (h1 : idx (ix3 b n 1) = BitVec.ofNat 32 g.val) :
    Host.gather gather_S8x5000x80_S8x5000x2_S8x5000_n_12_0_0_12_2_111 x idx (ix2 b n) = x (ix3 b k g) := by
  refine gather_of _ _ _ _ _ fun a => ?_
  match a with
  | ⟨0, _⟩ => exact (Nat.zero_add _)
  | ⟨1, _⟩ =>
    refine (word_at _ k.val 4999 ?_ (by omega) (by decide))
    refine Eq.trans (congrArg idx ?_) h0
    funext a
    match a with
    | ⟨0, _⟩ => rfl
    | ⟨1, _⟩ => rfl
    | ⟨2, _⟩ => rfl
  | ⟨2, _⟩ =>
    refine (word_at _ g.val 79 ?_ (by omega) (by decide))
    refine Eq.trans (congrArg idx ?_) h1
    funext a
    match a with
    | ⟨0, _⟩ => rfl
    | ⟨1, _⟩ => rfl
    | ⟨2, _⟩ => rfl

/-- The gather of a target's number at each anchor. -/
theorem gather_row {α : Type} (x : S8x60.Idx → α) (idx : IVec S8x5000x1 32) (b : Fin 8) (n : Fin 5000) (g : Fin 60)
    (h : idx (ix3 b n 0) = BitVec.ofNat 32 g.val) :
    Host.gather gather_S8x60_S8x5000x1_S8x5000_n_1_0_0_1_2_11 x idx (ix2 b n) = x (ix2 b g) := by
  refine gather_of _ _ _ _ _ fun a => ?_
  match a with
  | ⟨0, _⟩ => exact (Nat.zero_add _)
  | ⟨1, _⟩ =>
    refine (word_at _ g.val 59 ?_ (by omega) (by decide))
    refine Eq.trans (congrArg idx ?_) h
    funext a
    match a with
    | ⟨0, _⟩ => rfl
    | ⟨1, _⟩ => rfl
    | ⟨2, _⟩ => rfl

/-- The gather of a target's box at each anchor. -/
theorem gather_box {α : Type} (x : S8x60x4.Idx → α) (idx : IVec S8x5000x1 32) (b : Fin 8) (n : Fin 5000) (k : Fin 4) (g : Fin 60)
    (h : idx (ix3 b n 0) = BitVec.ofNat 32 g.val) :
    Host.gather gather_S8x60x4_S8x5000x1_S8x5000x4_2_1_0_0_1_2_114 x idx (ix3 b n k) = x (ix3 b g k) := by
  refine gather_of _ _ _ _ _ fun a => ?_
  match a with
  | ⟨0, _⟩ => exact (Nat.zero_add _)
  | ⟨1, _⟩ =>
    refine (word_at _ g.val 59 ?_ (by omega) (by decide))
    refine Eq.trans (congrArg idx ?_) h
    funext a
    match a with
    | ⟨0, _⟩ => rfl
    | ⟨1, _⟩ => rfl
    | ⟨2, _⟩ => rfl
  | ⟨2, _⟩ => exact (Nat.zero_add _)

/-- Two columns joined, at each. -/
theorem join_at {w : ℕ} (x y : IVec S8x5000x1 w) (b : Fin 8) (n : Fin 5000) :
    concatenate S8x5000x2 2 [⟨S8x5000x1, x⟩, ⟨S8x5000x1, y⟩] concatenates_S8x5000x1_S8x5000x1_S8x5000x2_d2 (ix3 b n 0) = x (ix3 b n 0) ∧
    concatenate S8x5000x2 2 [⟨S8x5000x1, x⟩, ⟨S8x5000x1, y⟩] concatenates_S8x5000x1_S8x5000x1_S8x5000x2_d2 (ix3 b n 1) = y (ix3 b n 0) := by
  constructor <;> pointwise <;> rfl

/-- Two rows joined, at each. -/
theorem stack_at (x y : FVec Ideal S1x8 .f32) (b : Fin 8) (r : Fin 2) :
    concatenate S2x8 0 [⟨S1x8, x⟩, ⟨S1x8, y⟩] concatenates_S1x8_S1x8_S2x8_d0 (ix2 r b) = if r = 0 then x (ix2 0 b) else y (ix2 0 b) := by
  match r with
  | 0 => pointwise <;> rfl
  | 1 => pointwise <;> rfl

end Cert.ReferenceIdeal.Read
end
-- ==== Proof.RefRead.lean ====
/- The reference's values at an index, as the image's losses. -/
module

public import proofs.«01_k».proof.Proof.Gen.ReferenceIdeal.Read
public import proofs.«01_k».proof.Proof.Gather
public import Idealize.ShloMosaic.Lib.Routing.OpsOrder

@[expose] public section

set_option maxRecDepth 16384

noncomputable section

namespace Cert.ReferenceIdeal.Read

open Idealize.ShloMosaic Idealize.ShloMosaic.TcCoe Cert.ReferenceIdeal Cert.ReferenceIdeal.Gen Cert.Loss

/-- Equality of words as a bit. -/
theorem eq_bit (x y : BitVec 32) : IntOp.cmpi .eq x y = 1#1 ↔ x = y := by
  show BitVec.ofBool (x == y) = 1#1 ↔ _
  by_cases h : x = y
  · simp [h]
  · rw [beq_eq_false_iff_ne.mpr h]; simp [h]

/-- Small words are equal only when their numbers are. -/
theorem word_inj {k l : ℕ} (hk : k < 4294967296) (hl : l < 4294967296) (h : BitVec.ofNat 32 k = BitVec.ofNat 32 l) : k = l := by
  have := congrArg BitVec.toNat h
  rw [BitVec.toNat_ofNat, BitVec.toNat_ofNat, Nat.mod_eq_of_lt hk, Nat.mod_eq_of_lt hl] at this
  exact this

/-- A selection by a bit that stands for a proposition. -/
theorem select_iff {α : Type} {c : BitVec 1} {p : Prop} [Decidable p] (h : c = 1#1 ↔ p) (x y : α) :
    Scalar.select c x y = if p then x else y := by
  by_cases hp : p
  · rw [if_pos hp, h.mpr hp]; rfl
  · rw [if_neg hp]
    exact if_neg (fun e => hp (h.mp e))

/-- The conjunction of two bits. -/
theorem and_bit (x y : BitVec 1) : IntOp.andi x y = 1#1 ↔ x = 1#1 ∧ y = 1#1 := by
  revert x y; decide

/-- The arguments are a batch of images. -/
structure Args (x0 : FVec Ideal S8x5000x80 .f32) (x1 : FVec Ideal S8x5000x4 .f32) (x2 : FVec Ideal S8x60x4 .f32) (x3 : IVec S8x60 32)
    (J : Fin 8 → Image) : Prop where
  scores : ∀ b n k, x0 (ix3 b n k) = (J b).cs n k
  boxes : ∀ b n k, x1 (ix3 b n k) = (J b).bp n k
  targets : ∀ b g k, x2 (ix3 b g k) = (J b).gb g k
  labels : ∀ b g, x3 (ix2 b g) = BitVec.ofNat 32 ((J b).lab g).val
  nonneg : ∀ b n k, 0 ≤ (J b).cs n k
  lt_one : ∀ b n k, (J b).cs n k < 1

variable {x0 : FVec Ideal S8x5000x80 .f32} {x1 : FVec Ideal S8x5000x4 .f32} {x2 : FVec Ideal S8x60x4 .f32} {x3 : IVec S8x60 32}
variable {J : Fin 8 → Image} (A : Args x0 x1 x2 x3 J)

open Classical

include A

/-- The overlap of an anchor and a target. -/
theorem iou_at (b : Fin 8) (n : Fin 5000) (g : Fin 60) :
    val_main_v51 (F := Ideal) x1 x2 (ix3 b n g) = iou ((J b).bp n) ((J b).gb g) := by
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28, val_main_v29, val_main_v30, val_main_v31, val_main_v32, val_main_v33, val_main_v34, val_main_v35, val_main_v36, val_main_cst, val_main_call0_v0, val_main_call0_v1, val_main_v37, val_main_v38, val_main_v39, val_main_v40, val_main_v41, val_main_v42, val_main_v43, val_main_v44, val_main_v45, val_main_v46, val_main_v47, val_main_v48, val_main_cst_0, val_main_v49, val_main_v50, val_main_v51, id, A.boxes, A.targets]
  rfl

/-- A target's label. -/
theorem label_at (b : Fin 8) (g : Fin 60) : val_main_v57 (F := Ideal) x3 (ix3 b g 0) = BitVec.ofNat 32 ((J b).lab g).val := by
  pointwise [val_main_c, val_main_v52, val_main_v53, val_main_c_1, val_main_v54, val_main_v55, val_main_v56, val_main_v57]
  exact wrap_at _ _ _ (A.labels b g) (by omega)

/-- The score of an anchor for a target's label. -/
theorem class_at (b : Fin 8) (n : Fin 5000) (g : Fin 60) : val_main_v58 (F := Ideal) x0 x3 (ix3 b n g) = (J b).cs n ((J b).lab g) :=
  (gather_classes _ _ b n g _ (label_at A b g)).trans (A.scores _ _ _)

/-- How well an anchor fits a target. -/
theorem metric_at (b : Fin 8) (n : Fin 5000) (g : Fin 60) : val_main_v63 (F := Ideal) x0 x1 x2 x3 (ix3 b n g) = (J b).metric n g := by
  pointwise [val_main_cst_2, val_main_v59, val_main_v60, val_main_cst_3, val_main_v61, val_main_v62, val_main_v63]
  rw [class_at A, iou_at A, pow_one ((A.lt_one _ _ _).trans (EReal.coe_lt_top 1))]
  exact congrArg _ (pow_six (iou_nonneg _ _))

/-- A target's best anchors. -/
theorem best_at (b : Fin 8) (g : Fin 60) (i : Fin 8) : val_main_indices (F := Ideal) x0 x1 x2 x3 (ix3 b g i)
    = BitVec.ofNat 32 (ranks (J b) g (i.castLE (by decide))).val := by
  have h : ∀ b g n, val_main_v64 (F := Ideal) x0 x1 x2 x3 (ix3 b g n) = (J b).metric n g := fun b g n =>
    Eq.trans (by pointwise [val_main_v64]) (metric_at A b n g)
  have := (topK_at (val_main_v64 (F := Ideal) x0 x1 x2 x3) sliceFits_S8x60x5000_S8x60x8 (by decide) b g i).2
  simp only [h] at this
  exact this

/-- The anchor is one of the target's eight best. -/
theorem cand_at (b : Fin 8) (n : Fin 5000) (g : Fin 60) : val_main_v73 (F := Ideal) x0 x1 x2 x3 (ix3 b n g) = 1#1 ↔ Image.cand (ranks (J b)) n g := by
  pointwise [val_main_v65, val_main_v66, val_main_v67, val_main_v68, val_main_v69, val_main_v70, val_main_v71, val_main_v72, val_main_c_4, val_main_v73]
  rw [Routing.fold_ori]
  simp only [best_at A, Finset.mem_univ, true_and, eq_bit]
  constructor
  · rintro ⟨i, h⟩
    exact ⟨i.castLE (by decide), i.isLt, Fin.ext (word_inj (by omega) (by omega) h)⟩
  · rintro ⟨i, hi, h⟩
    refine ⟨⟨i.val, hi⟩, ?_⟩
    rw [← h]
    rfl

/-- The anchor is a candidate of some target. -/
theorem pos_at (b : Fin 8) (n : Fin 5000) : val_main_v76 (F := Ideal) x0 x1 x2 x3 (ix2 b n) = 1#1 ↔ Image.pos (ranks (J b)) n := by
  pointwise [val_main_v76, val_main_c_8]
  rw [Routing.fold_ori]
  simp only [cand_at A, Finset.mem_univ, true_and]
  rfl

/-- The candidates' scores of an anchor. -/
theorem filled_at (b : Fin 8) (n : Fin 5000) (g : Fin 60) : val_main_v74 (F := Ideal) x0 x1 x2 x3 (ix3 b n g)
    = filled (G := 59) (Image.cand (ranks (J b)) n) ((J b).metric n) (fun _ => filler) g := by
  pointwise [val_main_cst_5, val_main_call1_v0, val_main_call1_v1, val_main_call1_v2, val_main_v74, id]
  rw [metric_at A, select_iff (cand_at A b n g)]
  rfl

/-- An anchor's target. -/
theorem target_at (b : Fin 8) (n : Fin 5000) : val_main_v75 (F := Ideal) x0 x1 x2 x3 (ix2 b n) = BitVec.ofNat 32 (assigned (J b) n).val := by
  have h := (topK_at (val_main_v74 (F := Ideal) x0 x1 x2 x3) sliceFits_S8x5000x60_S8x5000x1 (by decide) b n 0).2
  simp only [filled_at A] at h
  exact Eq.trans (by pointwise [val_main_v75]; rfl) h

/-- The assigned score of an anchor. -/
theorem score_at (b : Fin 8) (n : Fin 5000) : val_main_v93 (F := Ideal) x0 x1 x2 x3 (ix2 b n)
    = if Image.pos (ranks (J b)) n then (J b).metric n (assigned (J b) n) else 0 := by
  have h0 : val_main_v91 (F := Ideal) x0 x1 x2 x3 (ix3 b n 0) = BitVec.ofNat 32 n.val :=
    (join_at _ _ b n).1.trans (by pointwise [val_main_v77, val_main_c_9, val_main_v78, val_main_v79, val_main_c_10, val_main_v80, val_main_v81, val_main_v82, val_main_v88, val_main_v90]; exact wrap_at _ n.val _ rfl (by omega))
  have h1 : val_main_v91 (F := Ideal) x0 x1 x2 x3 (ix3 b n 1) = BitVec.ofNat 32 (assigned (J b) n).val :=
    (join_at _ _ b n).2.trans (by pointwise [val_main_c_11, val_main_v83, val_main_v84, val_main_c_12, val_main_v85, val_main_v86, val_main_v87, val_main_v89]; exact wrap_at _ _ _ (target_at A b n) (by omega))
  have h2 : val_main_v92 (F := Ideal) x0 x1 x2 x3 (ix2 b n) = (J b).metric n (assigned (J b) n) :=
    (gather_target _ _ b n n _ h0 h1).trans (metric_at A b n _)
  pointwise [val_main_cst_13, val_main_call2_v0, val_main_call2_v1, val_main_call2_v2, val_main_v93, id]
  rw [h2, select_iff (pos_at A b n)]

/-- The assigned overlap of an anchor. -/
theorem overlap_at (b : Fin 8) (n : Fin 5000) : val_main_v109 (F := Ideal) x0 x1 x2 x3 (ix2 b n)
    = if Image.pos (ranks (J b)) n then iou ((J b).bp n) ((J b).gb (assigned (J b) n)) else 0 := by
  have h0 : val_main_v107 (F := Ideal) x0 x1 x2 x3 (ix3 b n 0) = BitVec.ofNat 32 n.val :=
    (join_at _ _ b n).1.trans (by pointwise [val_main_v77, val_main_c_14, val_main_v94, val_main_v95, val_main_c_15, val_main_v96, val_main_v97, val_main_v98, val_main_v104, val_main_v106]; exact wrap_at _ n.val _ rfl (by omega))
  have h1 : val_main_v107 (F := Ideal) x0 x1 x2 x3 (ix3 b n 1) = BitVec.ofNat 32 (assigned (J b) n).val :=
    (join_at _ _ b n).2.trans (by pointwise [val_main_c_16, val_main_v99, val_main_v100, val_main_c_17, val_main_v101, val_main_v102, val_main_v103, val_main_v105]; exact wrap_at _ _ _ (target_at A b n) (by omega))
  have h2 : val_main_v108 (F := Ideal) x0 x1 x2 x3 (ix2 b n) = iou ((J b).bp n) ((J b).gb (assigned (J b) n)) :=
    (gather_target _ _ b n n _ h0 h1).trans (iou_at A b n _)
  pointwise [val_main_cst_18, val_main_call3_v0, val_main_call3_v1, val_main_call3_v2, val_main_v109, id]
  rw [h2, select_iff (pos_at A b n)]

/-- The anchor is assigned to the target. -/
theorem self_at (b : Fin 8) (n : Fin 5000) (g : Fin 60) : val_main_v119 (F := Ideal) x0 x1 x2 x3 (ix3 b n g) = 1#1
    ↔ Image.pos (ranks (J b)) n ∧ assigned (J b) n = g := by
  pointwise [val_main_v110, val_main_v111, val_main_v112, val_main_v113, val_main_v114, val_main_v115, val_main_v116, val_main_v117, val_main_v118, val_main_v119]
  rw [and_bit, eq_bit, pos_at A, target_at A]
  refine and_congr_right fun _ => ⟨fun h => Fin.ext (word_inj (by omega) (by omega) h), fun h => by rw [h]⟩

/-- The largest score assigned to a target. -/
theorem bestScore_at (b : Fin 8) (g : Fin 60) : val_main_v122 (F := Ideal) x0 x1 x2 x3 (ix2 b g)
    = (J b).best (ranks (J b)) (assigned (J b)) g := by
  pointwise [val_main_v120, val_main_cst_19, val_main_call4_v0, val_main_call4_v1, val_main_call4_v2, val_main_call4_v3, val_main_v121, val_main_cst_20, val_main_v122, id, max_fold]
  refine congrArg top (funext fun n => ?_)
  rw [score_at A, select_iff (self_at A b n g)]
  by_cases h : Image.pos (ranks (J b)) n ∧ assigned (J b) n = g
  · rw [if_pos h, if_pos h, if_pos h.1, h.2]
  · rw [if_neg h, if_neg h]

/-- The largest overlap assigned to a target. -/
theorem bestOverlap_at (b : Fin 8) (g : Fin 60) : val_main_v125 (F := Ideal) x0 x1 x2 x3 (ix2 b g)
    = (J b).bestIou (ranks (J b)) (assigned (J b)) g := by
  pointwise [val_main_v123, val_main_cst_21, val_main_call5_v0, val_main_call5_v1, val_main_call5_v2, val_main_call5_v3, val_main_v124, val_main_cst_22, val_main_v125, id, max_fold]
  refine congrArg top (funext fun n => ?_)
  rw [overlap_at A, select_iff (self_at A b n g)]
  by_cases h : Image.pos (ranks (J b)) n ∧ assigned (J b) n = g
  · rw [if_pos h, if_pos h, if_pos h.1, h.2]
  · rw [if_neg h, if_neg h]

/-- An anchor's normalised score. -/
theorem norm_at (b : Fin 8) (n : Fin 5000) : val_main_v144 (F := Ideal) x0 x1 x2 x3 (ix2 b n)
    = (J b).norm (ranks (J b)) (assigned (J b)) n := by
  have h1 : val_main_v132 (F := Ideal) x0 x1 x2 x3 (ix2 b n) = (J b).best (ranks (J b)) (assigned (J b)) (assigned (J b) n) :=
    (gather_row (val_main_v122 (F := Ideal) x0 x1 x2 x3) (val_main_v131 (F := Ideal) x0 x1 x2 x3) b n (assigned (J b) n) (by pointwise [val_main_c_23, val_main_v126, val_main_v127, val_main_c_24, val_main_v128, val_main_v129, val_main_v130, val_main_v131]; exact wrap_at _ _ _ (target_at A b n) (by omega))).trans (bestScore_at A b _)
  have h2 : val_main_v142 (F := Ideal) x0 x1 x2 x3 (ix2 b n) = (J b).bestIou (ranks (J b)) (assigned (J b)) (assigned (J b) n) :=
    (gather_row (val_main_v125 (F := Ideal) x0 x1 x2 x3) (val_main_v141 (F := Ideal) x0 x1 x2 x3) b n (assigned (J b) n) (by pointwise [val_main_c_26, val_main_v136, val_main_v137, val_main_c_27, val_main_v138, val_main_v139, val_main_v140, val_main_v141]; exact wrap_at _ _ _ (target_at A b n) (by omega))).trans (bestOverlap_at A b _)
  have h6 : val_main_v133 (F := Ideal) (ix2 b n) = tiny := by
    pointwise [val_main_cst_25, val_main_v133]
    rfl
  have h3 : val_main_v135 (F := Ideal) x0 x1 x2 x3 (ix2 b n) = Ideal.div (val_main_v93 (F := Ideal) x0 x1 x2 x3 (ix2 b n)) (val_main_v132 (F := Ideal) x0 x1 x2 x3 (ix2 b n) + tiny) := by
    rw [val_main_v135_apply, val_main_v134_apply, h6]
    rfl
  have h4 : val_main_v143 (F := Ideal) x0 x1 x2 x3 (ix2 b n) = val_main_v135 (F := Ideal) x0 x1 x2 x3 (ix2 b n) * val_main_v142 (F := Ideal) x0 x1 x2 x3 (ix2 b n) :=
    val_main_v143_apply _ _ _ _ _
  have h5 : val_main_v144 (F := Ideal) x0 x1 x2 x3 (ix2 b n) = Scalar.select (val_main_v76 (F := Ideal) x0 x1 x2 x3 (ix2 b n)) (val_main_v143 (F := Ideal) x0 x1 x2 x3 (ix2 b n)) 0 := by
    pointwise [val_main_cst_28, val_main_call6_v0, val_main_call6_v1, val_main_call6_v2, val_main_v144, id]
  rw [h5, h4, h3, h1, h2, score_at A, select_iff (pos_at A b n)]
  unfold Image.norm
  by_cases h : Image.pos (ranks (J b)) n
  · rw [if_pos h, if_pos h, if_pos h]
  · rw [if_neg h, if_neg h]

end Cert.ReferenceIdeal.Read
end
-- ==== Proof.RefLoss.lean ====
/- The reference's losses at an index. -/
module

public import proofs.«01_k».proof.Proof.RefRead

@[expose] public section

set_option maxRecDepth 16384

noncomputable section

namespace Cert.ReferenceIdeal.Read

open Idealize.ShloMosaic Idealize.ShloMosaic.TcCoe Cert.ReferenceIdeal Cert.ReferenceIdeal.Gen Cert.Loss
open Classical

variable {x0 : FVec Ideal S8x5000x80 .f32} {x1 : FVec Ideal S8x5000x4 .f32} {x2 : FVec Ideal S8x60x4 .f32} {x3 : IVec S8x60 32}
variable {J : Fin 8 → Image} (A : Args x0 x1 x2 x3 J)

/-- The class an anchor is positive for; the first class for an anchor that is not positive. -/
def label (I : Image) (n : Fin 5000) : Fin 80 := if Image.pos (ranks I) n then I.lab (assigned I n) else 0

include A

/-- An anchor's class. -/
theorem class_word (b : Fin 8) (n : Fin 5000) : val_main_v170 (F := Ideal) x0 x1 x2 x3 (ix2 b n) = BitVec.ofNat 32 (label (J b) n).val := by
  have h1 : val_main_v151 (F := Ideal) x0 x1 x2 x3 (ix2 b n) = BitVec.ofNat 32 ((J b).lab (assigned (J b) n)).val :=
    (gather_row x3 (val_main_v150 (F := Ideal) x0 x1 x2 x3) b n (assigned (J b) n) (by pointwise [val_main_c_29, val_main_v145, val_main_v146, val_main_c_30, val_main_v147, val_main_v148, val_main_v149, val_main_v150]; exact wrap_at _ _ _ (target_at A b n) (by omega))).trans (A.labels b _)
  pointwise [val_main_c_31, val_main_call7_v0, val_main_call7_v1, val_main_call7_v2, val_main_v152, val_main_c_39, val_main_call10_v0, val_main_call10_v1, val_main_call10_v2, val_main_v170, id]
  rw [h1, select_iff (pos_at A b n), select_iff (pos_at A b n)]
  unfold label
  by_cases h : Image.pos (ranks (J b)) n
  · rw [if_pos h, if_pos h, if_pos h]
  · rw [if_neg h, if_neg h]; rfl

/-- A clipped score. -/
theorem clip_at (b : Fin 8) (n : Fin 5000) (c : Fin 80) : val_main_v162 (F := Ideal) x0 (ix3 b n c) = clip ((J b).cs n c) := by
  pointwise [val_main_cst_35, val_main_cst_36, val_main_call9_v0, val_main_call9_v1, val_main_call9_v2, val_main_call9_v3, val_main_call9_v4, val_main_v162, id, A.scores]
  rfl

/-- A miss's loss. -/
theorem miss_at (b : Fin 8) (n : Fin 5000) (c : Fin 80) : val_main_v169 (F := Ideal) x0 (ix3 b n c) = miss (clip ((J b).cs n c)) := by
  pointwise [val_main_cst_37, val_main_v163, val_main_v164, val_main_v165, val_main_v166, val_main_cst_38, val_main_v167, val_main_v168, val_main_v169, clip_at A]
  rw [pow_two (clip_nonneg _)]
  exact (mul_assoc _ _ _).symm

/-- The clipped score of an anchor's class. -/
theorem own_at (b : Fin 8) (n : Fin 5000) : val_main_v185 (F := Ideal) x0 x1 x2 x3 (ix2 b n) = clip ((J b).cs n (label (J b) n)) := by
  have h0 : val_main_v184 (F := Ideal) x0 x1 x2 x3 (ix3 b n 0) = BitVec.ofNat 32 n.val :=
    (join_at _ _ b n).1.trans (by pointwise [val_main_v77, val_main_c_40, val_main_v171, val_main_v172, val_main_c_41, val_main_v173, val_main_v174, val_main_v175, val_main_v181, val_main_v183]; exact wrap_at _ n.val _ rfl (by omega))
  have h1 : val_main_v184 (F := Ideal) x0 x1 x2 x3 (ix3 b n 1) = BitVec.ofNat 32 (label (J b) n).val :=
    (join_at _ _ b n).2.trans (by pointwise [val_main_c_42, val_main_v176, val_main_v177, val_main_c_43, val_main_v178, val_main_v179, val_main_v180, val_main_v182]; exact wrap_at _ _ _ (class_word A b n) (by omega))
  exact (gather_class (val_main_v162 (F := Ideal) x0) (val_main_v184 (F := Ideal) x0 x1 x2 x3) b n n _ h0 h1).trans (clip_at A b n _)

/-- The loss of an anchor's class. -/
theorem hit_at (b : Fin 8) (n : Fin 5000) : val_main_v200 (F := Ideal) x0 x1 x2 x3 (ix2 b n)
    = Image.hit ((J b).norm (ranks (J b)) (assigned (J b)) n) (clip ((J b).cs n (label (J b) n))) := by
  have e : ∀ s p : FVec Ideal S8x5000 .f32, mulf (Host.negf (addf (mulf s (Host.log p))
      (mulf (subf (val_main_v188 (F := Ideal)) s) (Host.log (subf (val_main_v190 (F := Ideal)) p)))))
      (Host.powf (Host.absf (subf s p)) (val_main_v198 (F := Ideal))) (ix2 b n) = Image.hit (s (ix2 b n)) (p (ix2 b n)) := by
    intro s p
    pointwise [val_main_cst_44, val_main_v188, val_main_cst_45, val_main_v190, val_main_cst_46, val_main_v198]
    rw [show FloatOps.absf (s (ix2 b n) - p (ix2 b n)) = Image.dist (s (ix2 b n)) (p (ix2 b n)) from rfl, pow_two (Image.dist_nonneg _ _)]
    rfl
  refine (e (val_main_v144 (F := Ideal) x0 x1 x2 x3) (val_main_v185 (F := Ideal) x0 x1 x2 x3)).trans ?_
  rw [norm_at A, own_at A]

/-- The anchor is positive for the class. -/
theorem own_class (b : Fin 8) (n : Fin 5000) (c : Fin 80) : val_main_v210 (F := Ideal) x0 x1 x2 x3 (ix3 b n c) = 1#1
    ↔ Image.pos (ranks (J b)) n ∧ c = label (J b) n := by
  pointwise [val_main_v201, val_main_v202, val_main_v203, val_main_v204, val_main_v205, val_main_v206, val_main_v207, val_main_v208, val_main_v209, val_main_v210]
  rw [and_bit, eq_bit, pos_at A, class_word A]
  refine and_congr_right fun _ => ⟨fun h => Fin.ext (word_inj (by omega) (by omega) h), fun h => by rw [h]⟩

/-- An image's classification loss. -/
theorem cls_at (b : Fin 8) : val_main_v214 (F := Ideal) x0 x1 x2 x3 (ix1 b) = (J b).lossCls (ranks (J b)) (assigned (J b)) := by
  have h : ∀ n, val_main_v213 (F := Ideal) x0 x1 x2 x3 (ix2 b n) = ∑ c, if Image.pos (ranks (J b)) n ∧ c = (J b).lab (assigned (J b) n)
      then Image.hit ((J b).norm (ranks (J b)) (assigned (J b)) n) (clip ((J b).cs n ((J b).lab (assigned (J b) n))))
      else miss (clip ((J b).cs n c)) := by
    intro n
    pointwise [val_main_v211, val_main_v212, val_main_cst_47, val_main_v213, val_main_call11_v0]
    refine Finset.sum_congr rfl fun c _ => ?_
    rw [hit_at A, miss_at A, select_iff (own_class A b n c)]
    unfold label
    by_cases hp : Image.pos (ranks (J b)) n
    · simp only [if_pos hp]
    · simp only [hp, false_and, if_false]
  pointwise [val_main_cst_48, val_main_v214, h]
  rfl

/-- The box of an anchor's target; zero for an anchor that is not positive. -/
theorem box_at (b : Fin 8) (n : Fin 5000) (k : Fin 4) : val_main_v161 (F := Ideal) x0 x1 x2 x3 (ix3 b n k)
    = if Image.pos (ranks (J b)) n then (J b).gb (assigned (J b) n) k else 0 := by
  have h1 : val_main_v160 (F := Ideal) x0 x1 x2 x3 (ix3 b n k) = (J b).gb (assigned (J b) n) k :=
    (gather_box x2 (val_main_v159 (F := Ideal) x0 x1 x2 x3) b n k (assigned (J b) n) (by pointwise [val_main_c_32, val_main_v154, val_main_v155, val_main_c_33, val_main_v156, val_main_v157, val_main_v158, val_main_v159]; exact wrap_at _ _ _ (target_at A b n) (by omega))).trans (A.targets b _ _)
  pointwise [val_main_v153, val_main_cst_34, val_main_call8_v0, val_main_call8_v1, val_main_call8_v2, val_main_call8_v3, val_main_v161, id]
  rw [h1, select_iff (pos_at A b n)]

/-- An anchor's term of the box loss. -/
theorem boxTerm_at (b : Fin 8) (n : Fin 5000) : val_main_v275 (F := Ideal) x0 x1 x2 x3 (ix2 b n)
    = (1 - giou ((J b).bp n) ((J b).gb (assigned (J b) n))) * (J b).norm (ranks (J b)) (assigned (J b)) n := by
  have hi : val_main_v227 (F := Ideal) x0 x1 x2 x3 (ix2 b n) = inter ((J b).bp n) (fun k => val_main_v161 (F := Ideal) x0 x1 x2 x3 (ix3 b n k)) := by
    simp only [val_main_v215, val_main_v216, val_main_v217, val_main_v218, val_main_v219, val_main_v220, val_main_v221, val_main_cst_49, val_main_call12_v0, val_main_call12_v1, val_main_v222, val_main_v223, val_main_v224, val_main_v225, val_main_v226, val_main_v227]
    generalize val_main_v161 (F := Ideal) x0 x1 x2 x3 = w
    pointwise [id, A.boxes]
    rfl
  have e : ∀ w : FVec Ideal S8x5000x4 .f32, mulf
      (subf (shapeCast S8x5000 (extractStridedSlice S8x5000x1 ![0, 0, 2] w slices_S8x5000x4_S8x5000x1_0_0_2) shapeCasts_S8x5000x1_S8x5000)
        (shapeCast S8x5000 (extractStridedSlice S8x5000x1 ![0, 0, 0] w slices_S8x5000x4_S8x5000x1_0_0_0) shapeCasts_S8x5000x1_S8x5000))
      (subf (shapeCast S8x5000 (extractStridedSlice S8x5000x1 ![0, 0, 3] w slices_S8x5000x4_S8x5000x1_0_0_3) shapeCasts_S8x5000x1_S8x5000)
        (shapeCast S8x5000 (extractStridedSlice S8x5000x1 ![0, 0, 1] w slices_S8x5000x4_S8x5000x1_0_0_1) shapeCasts_S8x5000x1_S8x5000))
      (ix2 b n) = area (fun k => w (ix3 b n k)) := by
    intro w
    pointwise
    rfl
  have hu : val_main_v250 (F := Ideal) x0 x1 x2 x3 (ix2 b n) = area ((J b).bp n) + area (fun k => val_main_v161 (F := Ideal) x0 x1 x2 x3 (ix3 b n k)) := by
    rw [val_main_v250_apply, show val_main_v238 (F := Ideal) x1 (ix2 b n) = _ from e x1,
      show val_main_v249 (F := Ideal) x0 x1 x2 x3 (ix2 b n) = _ from e (val_main_v161 (F := Ideal) x0 x1 x2 x3), funext (A.boxes b n)]
    rfl
  have ha : val_main_v267 (F := Ideal) x0 x1 x2 x3 (ix2 b n) = around ((J b).bp n) (fun k => val_main_v161 (F := Ideal) x0 x1 x2 x3 (ix3 b n k)) := by
    simp only [val_main_v255, val_main_v256, val_main_v257, val_main_v258, val_main_v259, val_main_v260, val_main_v261, val_main_cst_51, val_main_call13_v0, val_main_call13_v1, val_main_v262, val_main_v263, val_main_v264, val_main_v265, val_main_v266, val_main_v267]
    generalize val_main_v161 (F := Ideal) x0 x1 x2 x3 = w
    pointwise [id, A.boxes]
    rfl
  have h252 : val_main_v252 (F := Ideal) (ix2 b n) = tiny := by
    pointwise [val_main_cst_50, val_main_v252]
    rfl
  have h269 : val_main_v269 (F := Ideal) (ix2 b n) = tiny := by
    pointwise [val_main_cst_52, val_main_v269]
    rfl
  have h : val_main_v272 (F := Ideal) x0 x1 x2 x3 (ix2 b n) = giou ((J b).bp n) (fun k => val_main_v161 (F := Ideal) x0 x1 x2 x3 (ix3 b n k)) := by
    rw [val_main_v272_apply, val_main_v254_apply, val_main_v271_apply, val_main_v253_apply, val_main_v268_apply, val_main_v270_apply,
      val_main_v251_apply, hi, hu, ha, h252, h269]
    rfl
  have h1 : val_main_v273 (F := Ideal) (ix2 b n) = 1 := by pointwise [val_main_cst_53, val_main_v273]
  rw [val_main_v275_apply, val_main_v274_apply, h, h1, norm_at A]
  show (1 - giou _ _) * _ = _
  by_cases hp : Image.pos (ranks (J b)) n
  · simp only [box_at A, if_pos hp]
  · rw [show (J b).norm (ranks (J b)) (assigned (J b)) n = 0 from if_neg hp, mul_zero, mul_zero]

/-- An image's box loss. -/
theorem boxLoss_at (b : Fin 8) : val_main_v278 (F := Ideal) x0 x1 x2 x3 (ix1 b) = (J b).lossBox (ranks (J b)) (assigned (J b)) := by
  pointwise [val_main_cst_54, val_main_v276, val_main_cst_55, val_main_v277, val_main_v278, boxTerm_at A]
  rfl

/-- An image's weight. -/
theorem weight_at (b : Fin 8) : val_main_v279 (F := Ideal) x0 x1 x2 x3 (ix1 b) = (J b).weight (ranks (J b)) (assigned (J b)) := by
  pointwise [val_main_cst_56, val_main_v279, norm_at A]
  rfl

/-- The reference's result. -/
theorem result_at (b : Fin 8) (r : Fin 2) : val_main_v290 (F := Ideal) x0 x1 x2 x3 (ix2 r b)
    = Ideal.div (if r = 0 then (J b).lossCls (ranks (J b)) (assigned (J b)) else (J b).lossBox (ranks (J b)) (assigned (J b)))
      (max (∑ i : Fin 8, (J i).weight (ranks (J i)) (assigned (J i))) 1) := by
  have e : ∀ w : FVec Ideal S8 .f32, Host.reduceAdd w (val_main_cst_57 (F := Ideal)) reducesTo_S8_S_d0 h_S_ ix0 = ∑ i : Fin 8, w (ix1 i) := by
    intro w
    pointwise [val_main_cst_57]
  have hw : (∑ i : Fin 8, val_main_v279 (F := Ideal) x0 x1 x2 x3 (ix1 i)) = ∑ i : Fin 8, (J i).weight (ranks (J i)) (assigned (J i)) :=
    Finset.sum_congr rfl fun i _ => weight_at A i
  have h1 : val_main_call14_v0 (F := Ideal) ix0 = 1 := by pointwise [val_main_cst_58, val_main_call14_v0, id]
  have d0 : val_main_v281 (F := Ideal) x0 x1 x2 x3 ix0 = (max (∑ i : Fin 8, (J i).weight (ranks (J i)) (assigned (J i))) 1) := by
    rw [val_main_v281_apply, show val_main_v280 (F := Ideal) x0 x1 x2 x3 ix0 = _ from e _, hw, h1]
    exact max_comm _ _
  have d1 : val_main_v283 (F := Ideal) x0 x1 x2 x3 ix0 = (max (∑ i : Fin 8, (J i).weight (ranks (J i)) (assigned (J i))) 1) := d0
  have q : ∀ (x : FVec Ideal S8 .f32) (y : FVec Ideal S_ .f32), broadcastInDim S1x8 ![1] bcast_S8_S1x8_1
      (Host.divf x (broadcastInDim S8 ![] bcast_S_S8 y)) (ix2 0 b) = Ideal.div (x (ix1 b)) (y ix0) := by
    intro x y
    pointwise
  have h0 : val_main_v288 (F := Ideal) x0 x1 x2 x3 (ix2 0 b) = Ideal.div ((J b).lossCls (ranks (J b)) (assigned (J b))) (max (∑ i : Fin 8, (J i).weight (ranks (J i)) (assigned (J i))) 1) :=
    (q (val_main_v214 (F := Ideal) x0 x1 x2 x3) (val_main_v281 (F := Ideal) x0 x1 x2 x3)).trans (by rw [d0, cls_at A])
  have h2 : val_main_v289 (F := Ideal) x0 x1 x2 x3 (ix2 0 b) = Ideal.div ((J b).lossBox (ranks (J b)) (assigned (J b))) (max (∑ i : Fin 8, (J i).weight (ranks (J i)) (assigned (J i))) 1) :=
    (q (val_main_v278 (F := Ideal) x0 x1 x2 x3) (val_main_v283 (F := Ideal) x0 x1 x2 x3)).trans (by rw [d1, boxLoss_at A])
  refine (stack_at (val_main_v288 (F := Ideal) x0 x1 x2 x3) (val_main_v289 (F := Ideal) x0 x1 x2 x3) b r).trans ?_
  rw [h0, h2]
  by_cases hr : r = 0
  · rw [if_pos hr, if_pos hr]
  · rw [if_neg hr, if_neg hr]

end Cert.ReferenceIdeal.Read
end
-- ==== Proof.PreRead.lean ====
/- The precondition read at an index: the scores' and labels' ranges, and the gaps between the ranked values. -/
module

public import proofs.«01_k».proof.Pre_well_posed
public import proofs.«01_k».proof.Proof.RefRead
public import Idealize.ShloMosaic.Lib.ReduceAll

@[expose] public section

set_option maxRecDepth 16384

noncomputable section

namespace Cert.Pre_well_posed

open Idealize.ShloMosaic Idealize.ShloMosaic.TcCoe Cert.Loss
open Cert.ReferenceIdeal.Read (val_main_v63 val_main_v64)
open Cert.ReferenceIdeal.Read

/-- The shape facts the precondition states. -/
instance facts : Facts := by constructor <;> decide

open Facts

/-- The scores' range, a bit a score. -/
def scoreBits (x0 : FVec Ideal S8x5000x80 .f32) : IVec S8x5000x80 1 :=
  andi (cmpf .oge x0 (broadcastInDim S8x5000x80 ![] bcast_S_S8x5000x80 (constant S_ .f32 0x00000000#32)))
    (cmpf .olt x0 (broadcastInDim S8x5000x80 ![] bcast_S_S8x5000x80 (constant S_ .f32 0x3F800000#32)))

/-- The labels' range, a bit a label. -/
def labelBits (x3 : IVec S8x60 32) : IVec S8x60 1 :=
  andi (cmpi .sge x3 (broadcastInDim S8x60 ![] bcast_S_S8x60 (constantI S_ 32 0#32)))
    (cmpi .slt x3 (broadcastInDim S8x60 ![] bcast_S_S8x60 (constantI S_ 32 80#32)))

/-- The nine best anchors of every target. -/
def nine (y : FVec Ideal S8x60x5000 .f32) : FVec Ideal S8x60x9 .f32 × IVec S8x60x9 32 :=
  Host.topK S8x60x9 2 (FloatOps.cmpfTotal (F := Ideal) (φ := .f32) .gt) y sliceFits_S8x60x5000_S8x60x9

/-- A best value and the next are apart, or the next is not positive. -/
def apartBits (v : FVec Ideal S8x60x9 .f32) : IVec S8x60x8 1 :=
  ori (cmpf .ogt (extractStridedSlice S8x60x8 ![0, 0, 0] v slices_S8x60x9_S8x60x8_0_0_0)
      (extractStridedSlice S8x60x8 ![0, 0, 1] v slices_S8x60x9_S8x60x8_0_0_1))
    (cmpf .ole (extractStridedSlice S8x60x8 ![0, 0, 1] v slices_S8x60x9_S8x60x8_0_0_1)
      (broadcastInDim S8x60x8 ![] bcast_S_S8x60x8 (constant S_ .f32 0x00000000#32)))

/-- The anchor is among the first eight of the target's nine best. -/
def candBits (i : IVec S8x60x9 32) : IVec S8x5000x60 1 :=
  Host.reduce IntOp.ori (cmpi .eq
      (broadcastInDim S8x5000x8x60 ![0, 1, 2, 3] bcast_S8x1x8x60_S8x5000x8x60_0_1_2_3
        (broadcastInDim S8x1x8x60 ![0, 2, 3] bcast_S8x8x60_S8x1x8x60_0_2_3
          (extractStridedSlice S8x8x60 ![0, 0, 0] (transpose S8x9x60 [0, 2, 1] i transposes_S8x60x9_S8x9x60_0_2_1)
            slices_S8x9x60_S8x8x60_0_0_0)))
      (broadcastInDim S8x5000x8x60 ![0, 1, 2, 3] bcast_S1x5000x1x1_S8x5000x8x60_0_1_2_3
        (broadcastInDim S1x5000x1x1 ![1] bcast_S5000_S1x5000x1x1_1 (iotaInDim S5000 32 0))))
    (constantI S_ 1 0#1) reducesTo_S8x5000x8x60_S8x5000x60_d2 h_S_

/-- The candidates' scores. -/
def scoresOf (c : IVec S8x5000x60 1) (x : FVec Ideal S8x5000x60 .f32) : FVec Ideal S8x5000x60 .f32 :=
  select c x (broadcastInDim S8x5000x60 ![] bcast_S_S8x5000x60 (constant S_ .f32 0xCE6E6B28#32))

/-- The best target of every anchor. -/
def first (y : FVec Ideal S8x5000x60 .f32) : FVec Ideal S8x5000x1 .f32 × IVec S8x5000x1 32 :=
  Host.topK S8x5000x1 2 (FloatOps.cmpfTotal (F := Ideal) (φ := .f32) .gt) y sliceFits_S8x5000x60_S8x5000x1

/-- A target's score is below the anchor's best, or the target is the best one, or no candidate. -/
def oneBits (c : IVec S8x5000x60 1) (y : FVec Ideal S8x5000x60 .f32) (v : FVec Ideal S8x5000x1 .f32) (i : IVec S8x5000x1 32) :
    IVec S8x5000x60 1 :=
  ori (ori (cmpf .olt y (broadcastInDim S8x5000x60 ![0, 1, 2] bcast_S8x5000x1_S8x5000x60_0_1_2 v))
      (cmpi .eq (broadcastInDim S8x5000x60 ![0, 1, 2] bcast_S1x1x60_S8x5000x60_0_1_2
          (broadcastInDim S1x1x60 ![2] bcast_S60_S1x1x60_2 (iotaInDim S60 32 0)))
        (broadcastInDim S8x5000x60 ![0, 1, 2] bcast_S8x5000x1_S8x5000x60_0_1_2 i)))
    (noti c)

/-- The precondition after its scores are known. -/
def judged (s l : IVec S_ 1) (x : FVec Ideal S8x5000x60 .f32) (y : FVec Ideal S8x60x5000 .f32) : IVec S_ 1 :=
  andi (andi (andi s l) (Host.reduce IntOp.andi (apartBits (nine y).1) (constantI S_ 1 1#1) reducesTo_S8x60x8_S_d0_1_2 h_S_))
    (Host.reduce IntOp.andi (oneBits (candBits (nine y).2) (scoresOf (candBits (nine y).2) x)
      (first (scoresOf (candBits (nine y).2) x)).1 (first (scoresOf (candBits (nine y).2) x)).2)
      (constantI S_ 1 1#1) reducesTo_S8x5000x60_S_d0_1_2 h_S_)

/-- The precondition, over the reference's own scores. -/
theorem fn_eq (x0 : FVec Ideal S8x5000x80 .f32) (x1 : FVec Ideal S8x5000x4 .f32) (x2 : FVec Ideal S8x60x4 .f32) (x3 : IVec S8x60 32) :
    fn (F := Ideal) x0 x1 x2 x3 = judged
      (Host.reduce IntOp.andi (scoreBits x0) (constantI S_ 1 1#1) reducesTo_S8x5000x80_S_d0_1_2 h_S_)
      (Host.reduce IntOp.andi (labelBits x3) (constantI S_ 1 1#1) reducesTo_S8x60_S_d0_1 h_S_)
      (val_main_v63 (F := Ideal) x0 x1 x2 x3) (val_main_v64 (F := Ideal) x0 x1 x2 x3) := by
  rfl

/-- A decided proposition as a bit. -/
theorem holds_bit (p : Prop) [Decidable p] : BitVec.ofBool (decide p) = 1#1 ↔ p := by
  by_cases h : p <;> simp [h]

/-- The disjunction of two bits. -/
theorem or_bit (x y : BitVec 1) : IntOp.ori x y = 1#1 ↔ x = 1#1 ∨ y = 1#1 := by
  revert x y; decide

/-- The negation of a bit. -/
theorem not_bit (x : BitVec 1) : ~~~x = 1#1 ↔ ¬ x = 1#1 := by
  revert x; decide

/-- A score's bit. -/
theorem score_bit (x0 : FVec Ideal S8x5000x80 .f32) (b : Fin 8) (n : Fin 5000) (k : Fin 80) :
    scoreBits x0 (ix3 b n k) = 1#1 ↔ 0 ≤ x0 (ix3 b n k) ∧ x0 (ix3 b n k) < 1 := by
  pointwise [scoreBits]
  rw [and_bit]
  rw [holds_bit, holds_bit]

/-- A label's bit: the label is a class. -/
theorem label_bit (x3 : IVec S8x60 32) (b : Fin 8) (g : Fin 60) (h : labelBits x3 (ix2 b g) = 1#1) :
    (x3 (ix2 b g)).toNat < 80 := by
  revert h
  pointwise [labelBits]
  rw [and_bit]
  rintro ⟨h0, h1⟩
  have u : ∀ c : Bool, BitVec.ofBool c = 1#1 → c = true := by decide
  have h0 : (0#32).toInt ≤ (x3 (ix2 b g)).toInt := of_decide_eq_true (u _ h0)
  have h1 : (x3 (ix2 b g)).toInt < (80#32).toInt := of_decide_eq_true (u _ h1)
  rw [show (0#32).toInt = 0 from rfl, BitVec.toInt_eq_toNat_cond] at h0
  rw [show (80#32).toInt = 80 from rfl, BitVec.toInt_eq_toNat_cond] at h1
  split at h0 <;> omega

/-- A gap's bit. -/
theorem apart_bit (v : FVec Ideal S8x60x9 .f32) (b : Fin 8) (g : Fin 60) (i : Fin 8) : apartBits v (ix3 b g i) = 1#1 ↔
    v (ix3 b g i.succ) < v (ix3 b g i.castSucc) ∨ v (ix3 b g i.succ) ≤ 0 := by
  pointwise [apartBits]
  rw [or_bit]
  rw [holds_bit, holds_bit, show (⟨1 + i.val, _⟩ : Fin 9) = i.succ from Fin.ext (Nat.add_comm _ _)]
  rfl

/-- A candidate's bit. -/
theorem cand_bit (w : IVec S8x60x9 32) (b : Fin 8) (n : Fin 5000) (g : Fin 60) : candBits w (ix3 b n g) = 1#1 ↔
    ∃ i : Fin 8, w (ix3 b g i.castSucc) = BitVec.ofNat 32 n.val := by
  pointwise [candBits]
  rw [Routing.fold_ori]
  simp only [Finset.mem_univ, true_and, eq_bit]
  rfl

/-- A score among the candidates' scores. -/
theorem scores_bit (c : IVec S8x5000x60 1) (x : FVec Ideal S8x5000x60 .f32) (b : Fin 8) (n : Fin 5000) (g : Fin 60) :
    scoresOf c x (ix3 b n g) = Scalar.select (c (ix3 b n g)) (x (ix3 b n g)) filler := by
  pointwise [scoresOf]
  rfl

/-- A target's bit. -/
theorem one_bit (c : IVec S8x5000x60 1) (y : FVec Ideal S8x5000x60 .f32) (v : FVec Ideal S8x5000x1 .f32) (i : IVec S8x5000x1 32)
    (b : Fin 8) (n : Fin 5000) (g : Fin 60) : oneBits c y v i (ix3 b n g) = 1#1 ↔
    (y (ix3 b n g) < v (ix3 b n 0) ∨ BitVec.ofNat 32 g.val = i (ix3 b n 0)) ∨ ¬ c (ix3 b n g) = 1#1 := by
  pointwise [oneBits]
  rw [or_bit, or_bit]
  rw [holds_bit, eq_bit, not_bit]

/-- The image the arguments hold, a label outside the classes taken round. -/
def images (x0 : FVec Ideal S8x5000x80 .f32) (x1 : FVec Ideal S8x5000x4 .f32) (x2 : FVec Ideal S8x60x4 .f32) (x3 : IVec S8x60 32)
    (b : Fin 8) : Image where
  cs n k := x0 (ix3 b n k)
  bp n k := x1 (ix3 b n k)
  gb g k := x2 (ix3 b g k)
  lab g := Fin.ofNat 80 (x3 (ix2 b g)).toNat

variable {x0 : FVec Ideal S8x5000x80 .f32} {x1 : FVec Ideal S8x5000x4 .f32} {x2 : FVec Ideal S8x60x4 .f32} {x3 : IVec S8x60 32}

/-- What the precondition's bit says. -/
theorem decode (h : fn (F := Ideal) x0 x1 x2 x3 = fun _ => 1#1) :
    (∀ i, scoreBits x0 i = 1#1) ∧ (∀ i, labelBits x3 i = 1#1)
    ∧ (∀ i, apartBits (nine (val_main_v64 (F := Ideal) x0 x1 x2 x3)).1 i = 1#1)
    ∧ ∀ i, oneBits (candBits (nine (val_main_v64 (F := Ideal) x0 x1 x2 x3)).2)
        (scoresOf (candBits (nine (val_main_v64 (F := Ideal) x0 x1 x2 x3)).2) (val_main_v63 (F := Ideal) x0 x1 x2 x3))
        (first (scoresOf (candBits (nine (val_main_v64 (F := Ideal) x0 x1 x2 x3)).2) (val_main_v63 (F := Ideal) x0 x1 x2 x3))).1
        (first (scoresOf (candBits (nine (val_main_v64 (F := Ideal) x0 x1 x2 x3)).2) (val_main_v63 (F := Ideal) x0 x1 x2 x3))).2 i = 1#1 := by
  rw [fn_eq] at h
  haveI : Subsingleton S_.Idx := ⟨fun i j => funext fun a => a.elim0⟩
  have e := congrFun h (Shape.Idx.first h_S_)
  obtain ⟨e, e4⟩ := (and_bit _ _).mp e
  obtain ⟨e, e3⟩ := (and_bit _ _).mp e
  obtain ⟨e1, e2⟩ := (and_bit _ _).mp e
  exact ⟨Host.reduce_andi_all _ _ _ _ _ e1, Host.reduce_andi_all _ _ _ _ _ e2, Host.reduce_andi_all _ _ _ _ _ e3,
    Host.reduce_andi_all _ _ _ _ _ e4⟩

/-- The arguments are a batch of images with scores in range. -/
theorem args_of (h : fn (F := Ideal) x0 x1 x2 x3 = fun _ => 1#1) : Args x0 x1 x2 x3 (images x0 x1 x2 x3) where
  scores _ _ _ := rfl
  boxes _ _ _ := rfl
  targets _ _ _ := rfl
  labels b g := by
    have hl := label_bit x3 b g ((decode h).2.1 _)
    apply BitVec.eq_of_toNat_eq
    show _ = (BitVec.ofNat 32 ((x3 (ix2 b g)).toNat % 80)).toNat
    rw [Nat.mod_eq_of_lt hl, BitVec.toNat_ofNat, Nat.mod_eq_of_lt (by omega)]
  nonneg b n k := ((score_bit x0 b n k).mp ((decode h).1 _)).1
  lt_one b n k := ((score_bit x0 b n k).mp ((decode h).1 _)).2

/-- The nine best of a target, as the reference's order gives them. -/
theorem nine_at {J : Fin 8 → Image} (A : Args x0 x1 x2 x3 J) (b : Fin 8) (g : Fin 60) (i : Fin 9) :
    (nine (val_main_v64 (F := Ideal) x0 x1 x2 x3)).1 (ix3 b g i) = (J b).metric (ranks (J b) g (i.castLE (by decide))) g ∧
    (nine (val_main_v64 (F := Ideal) x0 x1 x2 x3)).2 (ix3 b g i) = BitVec.ofNat 32 (ranks (J b) g (i.castLE (by decide))).val := by
  have h : ∀ b g n, val_main_v64 (F := Ideal) x0 x1 x2 x3 (ix3 b g n) = (J b).metric n g := fun b g n =>
    Eq.trans (by pointwise [val_main_v64]) (metric_at A b n g)
  have := topK_at (val_main_v64 (F := Ideal) x0 x1 x2 x3) sliceFits_S8x60x5000_S8x60x9 (by decide) b g i
  simp only [h] at this
  exact this

open Classical

/-- A candidate's bit, as the reference's candidates. -/
theorem cand_iff {J : Fin 8 → Image} (A : Args x0 x1 x2 x3 J) (b : Fin 8) (n : Fin 5000) (g : Fin 60) :
    candBits (nine (val_main_v64 (F := Ideal) x0 x1 x2 x3)).2 (ix3 b n g) = 1#1 ↔ Image.cand (ranks (J b)) n g := by
  rw [cand_bit]
  simp only [fun i => (nine_at A b g i).2]
  constructor
  · rintro ⟨i, h⟩
    exact ⟨i.castSucc.castLE (by decide), i.isLt, Fin.ext (word_inj (by omega) (by omega) h)⟩
  · rintro ⟨i, hi, h⟩
    refine ⟨⟨i.val, hi⟩, ?_⟩
    rw [← h]
    rfl

/-- The candidates' scores, as the reference's. -/
theorem scores_eq {J : Fin 8 → Image} (A : Args x0 x1 x2 x3 J) (b : Fin 8) (n : Fin 5000) (g : Fin 60) :
    scoresOf (candBits (nine (val_main_v64 (F := Ideal) x0 x1 x2 x3)).2) (val_main_v63 (F := Ideal) x0 x1 x2 x3) (ix3 b n g)
      = filled (G := 59) (Image.cand (ranks (J b)) n) ((J b).metric n) (fun _ => filler) g := by
  rw [scores_bit, metric_at A, select_iff (cand_iff A b n g)]
  rfl

/-- Under the precondition every image's choices are settled. -/
theorem chosen_of (h : fn (F := Ideal) x0 x1 x2 x3 = fun _ => 1#1) (b : Fin 8) :
    (images x0 x1 x2 x3 b).Chosen (ranks (images x0 x1 x2 x3 b)) (assigned (images x0 x1 x2 x3 b)) where
  score_nonneg n k := (args_of h).nonneg b n k
  score_lt_one n k := (args_of h).lt_one b n k
  ranked _ := order_ranked
  apart g i j hi hj := by
    have e := (apart_bit _ b g ⟨i.val, hi⟩).mp ((decode h).2.2.1 _)
    rw [(nine_at (args_of h) b g _).1, (nine_at (args_of h) b g _).1] at e
    obtain rfl : j = ((⟨i.val, hi⟩ : Fin 8).succ).castLE (by decide) := Fin.ext hj
    exact e
  first _ := order_first _
  one n g := by
    have e := (one_bit _ _ _ _ b n g).mp ((decode h).2.2.2 _)
    have t := topK_at (scoresOf (candBits (nine (val_main_v64 (F := Ideal) x0 x1 x2 x3)).2) (val_main_v63 (F := Ideal) x0 x1 x2 x3))
      sliceFits_S8x5000x60_S8x5000x1 (by decide) b n 0
    simp only [scores_eq (args_of h)] at t
    rw [scores_eq (args_of h), cand_iff (args_of h)] at e
    rw [first, t.1, t.2] at e
    rcases e with (e | e) | e
    · exact Or.inl e
    · exact Or.inr (Or.inl (Fin.ext (word_inj (by omega) (by omega) e)))
    · exact Or.inr (Or.inr e)

end Cert.Pre_well_posed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelImage
public import proofs.«01_k».proof.Proof.RefLoss
public import proofs.«01_k».proof.Proof.PreRead
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- Every run of the idealized reference leaves its arguments alone, and it declares no semaphore. -/
theorem frame_reference : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

section Values

variable (m : (ℓ : Loc Cert.KernelIdeal.nD Cert.KernelIdeal.τ Cert.KernelIdeal.sig) → Buf (Elt Ideal) ℓ)

/-- The image at a place of the batch. -/
def imageOf (c : Dev Cert.KernelIdeal.nD) (b : Fin 8) : Cert.Loss.Image :=
  Cert.Pre_well_posed.images (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) b

/-- The image at a number, taken round the batch. -/
def imageAt (c : Dev Cert.KernelIdeal.nD) (k : ℕ) : Cert.Loss.Image := imageOf m c (Fin.ofNat 8 k)

/-- A place of the batch is its own number. -/
theorem imageAt_eq (c : Dev Cert.KernelIdeal.nD) (b : Fin 8) : imageAt m c b.val = imageOf m c b :=
  congrArg (imageOf m c) (Fin.ext (Nat.mod_eq_of_lt b.isLt))

/-- The three rows of the image at a number. -/
def rowsOf (c : Dev Cert.KernelIdeal.nD) : ℕ → Fin 3 → EReal :=
  Cert.KernelIdeal.Value.row (imageAt m c) (fun k => Cert.Loss.ranks (imageAt m c k)) (fun k => Cert.Loss.assigned (imageAt m c k))

/-- The result both programs reach. -/
def result (c : Dev Cert.KernelIdeal.nD) :=
  Cert.ReferenceIdeal.Read.val_main_v290 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))

variable {m} (hP : Cert.Pre_KernelIdeal_well_posed m)

include hP

/-- Under the precondition the kernel's arguments hold the batch's images. -/
theorem holds (c : Dev Cert.KernelIdeal.nD) : Cert.KernelIdeal.Value.Holds m c (imageAt m c)
    (fun k => Cert.Loss.ranks (imageAt m c k)) (fun k => Cert.Loss.assigned (imageAt m c k)) where
  scores b n k := by rw [imageAt_eq]; exact (Cert.Pre_well_posed.args_of (hP c)).scores b n k
  boxes b n k := by rw [imageAt_eq]; exact (Cert.Pre_well_posed.args_of (hP c)).boxes b n k
  targets b g k := by rw [imageAt_eq]; exact (Cert.Pre_well_posed.args_of (hP c)).targets b g k
  labels b g := by rw [imageAt_eq]; exact (Cert.Pre_well_posed.args_of (hP c)).labels b g
  chosen b := by rw [imageAt_eq]; exact Cert.Pre_well_posed.chosen_of (hP c) b

/-- The kernel's losses are the reference's result. -/
theorem losses_eq (c : Dev Cert.KernelIdeal.nD) (r : Fin 2) (b : Fin 8) :
    Cert.KernelIdeal.Value.losses (rowsOf m c) r b = result m c (ix2 r b) := by
  refine Eq.trans ?_ (Cert.ReferenceIdeal.Read.result_at (Cert.Pre_well_posed.args_of (hP c)) b r).symm
  show Ideal.div (if r = 0 then (imageAt m c b.val).lossCls (Cert.Loss.ranks (imageAt m c b.val)) (Cert.Loss.assigned (imageAt m c b.val))
      else (imageAt m c b.val).lossBox (Cert.Loss.ranks (imageAt m c b.val)) (Cert.Loss.assigned (imageAt m c b.val)))
    (max (∑ i : Fin 8, (imageAt m c i.val).weight (Cert.Loss.ranks (imageAt m c i.val)) (Cert.Loss.assigned (imageAt m c i.val))) 1) = _
  simp only [imageAt_eq]
  rfl

end Values

/-- The kernel and the reference reach the same result. -/
theorem algebraic : Cert.algebraic_KernelIdeal_ReferenceIdeal_pre_well_posed := by
  intro m g m' g' hP hE
  refine ⟨fun c => result m c, ?_, ?_⟩
  · refine (θ_run Cert.KernelIdeal.defs _ _).mono (fun r h c => ⟨?_, (h c).2⟩)
      (Cert.KernelIdeal.Value.run m g (rowsOf m) fun c t j l => Cert.KernelIdeal.Value.rowsAt_eq (holds hP c) t j l)
    funext i
    have hi : i = ix2 (i 0) (i 1) := funext fun a => match a with
      | ⟨0, _⟩ => rfl
      | ⟨1, _⟩ => rfl
    rw [hi]
    exact ((h c).1 (i 0) (i 1)).trans (losses_eq hP c (i 0) (i 1))
  · refine (θ_run Cert.ReferenceIdeal.defs _ _).mono (fun r h c => ⟨?_, (h c).2⟩) (Cert.ReferenceIdeal.Value.run (F := Ideal) m' g')
    refine ((h c).1.trans (Cert.ReferenceIdeal.Read.val_main_v290_eq (StableHlo.launchContents m' c))).trans ?_
    obtain ⟨e0, e1, e2, e3⟩ := hE c
    exact congr (congr (congr (congrArg (Cert.ReferenceIdeal.Read.val_main_v290 (F := Ideal)) e0) e1) e2) e3

/-- Everything the certificate claims. -/
theorem claim : Cert.Claim := ⟨Cert.Kernel.Gen.facts, Cert.KernelIdeal.Gen.facts, Cert.ReferenceIdeal.Gen.facts, Cert.Pre_well_posed.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
